-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v358) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x96x224x224 : Shape := ⟨4, ![2, 96, 224, 224]⟩
abbrev S2x8x56x56 : Shape := ⟨4, ![2, 8, 56, 56]⟩
abbrev S2x9x64 : Shape := ⟨3, ![2, 9, 64]⟩
abbrev S2x8 : Shape := ⟨2, ![2, 8]⟩
abbrev S96 : Shape := ⟨1, ![96]⟩
abbrev S8x64x64 : Shape := ⟨3, ![8, 64, 64]⟩
abbrev S8x64 : Shape := ⟨2, ![8, 64]⟩
abbrev S96x64x3x3 : Shape := ⟨4, ![96, 64, 3, 3]⟩
abbrev S_ : Shape := ⟨0, ![]⟩

class Facts : Prop where
  bcast_S_S2x9x64 : S_.BroadcastsInDim S2x9x64 (![] : Fin 0 → Fin S2x9x64.rank)
  reducesTo_S2x9x64_S_d0_1_2 : S2x9x64.ReducesTo [0, 1, 2] S_
  h_S_ : 0 < S_.numel
  bcast_S_S96 : S_.BroadcastsInDim S96 (![] : Fin 0 → Fin S96.rank)
  reducesTo_S96_S_d0 : S96.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_
  bcast_S_S96x64x3x3 : S_.BroadcastsInDim S96x64x3x3 (![] : Fin 0 → Fin S96x64x3x3.rank)
  reducesTo_S96x64x3x3_S_d0_1_2_3 : S96x64x3x3.ReducesTo [0, 1, 2, 3] S_

variable [Facts]

def fn_part1 {F : FTy → Type} [FloatOps F] (main_arg7 : FVec F S8x64 .f32) (main_arg8 : FVec F S96x64x3x3 .f32) (main_arg9 : FVec F S96 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S8x64 .f32 := Host.absf main_arg7
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S96x64x3x3 .f32 := Host.absf main_arg8
  let main_cst_8 : FVec F S_ .f32 := constant S_ .f32 0x7F800000#32
  let main_v25 : FVec F S96x64x3x3 .f32 := broadcastInDim S96x64x3x3 ![] bcast_S_S96x64x3x3 main_cst_8
  let main_v26 : IVec S96x64x3x3 1 := cmpf .olt main_v24 main_v25
  let main_c_9 : IVec S_ 1 := constantI S_ 1 1#1
  let main_v27 : IVec S_ 1 := (fun x v => Host.reduce IntOp.andi x v reducesTo_S96x64x3x3_S_d0_1_2_3 h_S_) main_v26 main_c_9
  let main_v28 : IVec S_ 1 := andi main_v23 main_v27
  let main_v29 : FVec F S96 .f32 := Host.absf main_arg9
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S2x96x224x224 .f32) (main_arg1 : FVec F S2x8x56x56 .f32) (main_arg2 : FVec F S2x9x64 .f32) (main_arg3 : IVec S2x8 32) (main_arg4 : FVec F S96 .f32) (main_arg5 : FVec F S96 .f32) (main_arg6 : FVec F S8x64x64 .f32) (main_arg7 : FVec F S8x64 .f32) (main_arg8 : FVec F S96x64x3x3 .f32) (main_arg9 : FVec F S96 .f32) (main_arg10 : FVec F S96x64x3x3 .f32) (main_arg11 : FVec F S96 .f32) : IVec S_ 1 :=
  let main_v0 : FVec F S2x9x64 .f32 := Host.absf main_arg2
  let main_cst : FVec F S_ .f32 := constant S_ .f32 0x7F800000#32
  let main_v1 : FVec F S2x9x64 .f32 := broadcastInDim S2x9x64 ![] bcast_S_S2x9x64 main_cst
  let main_v2 : IVec S2x9x64 1 := cmpf .olt main_v0 main_v1
  let main_c : IVec S_ 1 := constantI S_ 1 1#1
  let main_v3 : IVec S_ 1 := (fun x v => Host.reduce IntOp.andi x v reducesTo_S2x9x64_S_d0_1_2 h_S_) main_v2 main_c
  let main_v4 : FVec F S96 .f32 := Host.absf main_arg4
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  let main_v9 : FVec F S96 .f32 := Host.absf main_arg5
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S8x64x64 .f32 := Host.absf main_arg6
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg7 main_arg8 main_arg9 main_v13 main_v16
-- ==== Kernel.lean ====
abbrev S2x96x224x224 : Shape := ⟨4, ![2, 96, 224, 224]⟩
abbrev S2x8x56x56 : Shape := ⟨4, ![2, 8, 56, 56]⟩
abbrev S2x9x64 : Shape := ⟨3, ![2, 9, 64]⟩
abbrev S2x8 : Shape := ⟨2, ![2, 8]⟩
abbrev S96 : Shape := ⟨1, ![96]⟩
abbrev S8x64x64 : Shape := ⟨3, ![8, 64, 64]⟩
abbrev S8x64 : Shape := ⟨2, ![8, 64]⟩
abbrev S96x64x3x3 : Shape := ⟨4, ![96, 64, 3, 3]⟩
abbrev S56x256 : Shape := ⟨2, ![56, 256]⟩
abbrev S512x9 : Shape := ⟨2, ![512, 9]⟩
abbrev S_ : Shape := ⟨0, ![]⟩
abbrev S2x8x1 : Shape := ⟨3, ![2, 8, 1]⟩
abbrev S2x8x64 : Shape := ⟨3, ![2, 8, 64]⟩
abbrev S2x1x64 : Shape := ⟨3, ![2, 1, 64]⟩
abbrev S2x512x1 : Shape := ⟨3, ![2, 512, 1]⟩
abbrev S64x8x64 : Shape := ⟨3, ![64, 8, 64]⟩
abbrev S64x512 : Shape := ⟨2, ![64, 512]⟩
abbrev S64x8 : Shape := ⟨2, ![64, 8]⟩
abbrev S64x1 : Shape := ⟨2, ![64, 1]⟩
abbrev S64x9 : Shape := ⟨2, ![64, 9]⟩
abbrev S3x3x96x64 : Shape := ⟨4, ![3, 3, 96, 64]⟩
abbrev S864x64 : Shape := ⟨2, ![864, 64]⟩
abbrev S1728x64 : Shape := ⟨2, ![1728, 64]⟩
abbrev S1x96 : Shape := ⟨2, ![1, 96]⟩
abbrev S1x96x56x224 : Shape := ⟨4, ![1, 96, 56, 224]⟩
abbrev S1x8x56x56 : Shape := ⟨4, ![1, 8, 56, 56]⟩
abbrev S128x14336 : Shape := ⟨2, ![128, 14336]⟩
abbrev S9x4x16x256 : Shape := ⟨4, ![9, 4, 16, 256]⟩
abbrev S2x96x224 : Shape := ⟨3, ![2, 96, 224]⟩
abbrev S2x192x128 : Shape := ⟨3, ![2, 192, 128]⟩
abbrev S14336 : Shape := ⟨1, ![14336]⟩
abbrev S1x14336 : Shape := ⟨2, ![1, 14336]⟩
abbrev S2x14336 : Shape := ⟨2, ![2, 14336]⟩
abbrev S46x14336 : Shape := ⟨2, ![46, 14336]⟩
abbrev S96x56x224 : Shape := ⟨3, ![96, 56, 224]⟩
abbrev S1x96x224 : Shape := ⟨3, ![1, 96, 224]⟩
abbrev S96x224 : Shape := ⟨2, ![96, 224]⟩
abbrev S2x96 : Shape := ⟨2, ![2, 96]⟩
abbrev S96x1 : Shape := ⟨2, ![96, 1]⟩
abbrev S1x512x1 : Shape := ⟨3, ![1, 512, 1]⟩
abbrev S512x1 : Shape := ⟨2, ![512, 1]⟩
abbrev S1728x9 : Shape := ⟨2, ![1728, 9]⟩
abbrev S96x9 : Shape := ⟨2, ![96, 9]⟩
abbrev S1x96x9 : Shape := ⟨3, ![1, 96, 9]⟩
abbrev S1x96x1 : Shape := ⟨3, ![1, 96, 1]⟩
abbrev S192x46 : Shape := ⟨2, ![192, 46]⟩
abbrev S1x192x46 : Shape := ⟨3, ![1, 192, 46]⟩
abbrev S1x256 : Shape := ⟨2, ![1, 256]⟩
abbrev S56x56 : Shape := ⟨2, ![56, 56]⟩
abbrev S1x1x56x56 : Shape := ⟨4, ![1, 1, 56, 56]⟩
abbrev S58x256 : Shape := ⟨2, ![58, 256]⟩
abbrev S16x256 : Shape := ⟨2, ![16, 256]⟩
abbrev S1x1x16x256 : Shape := ⟨4, ![1, 1, 16, 256]⟩
abbrev S9x1x16x256 : Shape := ⟨4, ![9, 1, 16, 256]⟩
abbrev S9x16x256 : Shape := ⟨3, ![9, 16, 256]⟩
abbrev S9x16x1x256 : Shape := ⟨4, ![9, 16, 1, 256]⟩
abbrev S9x16x4x256 : Shape := ⟨4, ![9, 16, 4, 256]⟩
abbrev S9x16384 : Shape := ⟨2, ![9, 16384]⟩
abbrev S9x14336 : Shape := ⟨2, ![9, 14336]⟩
abbrev S10x14336 : Shape := ⟨2, ![10, 14336]⟩
abbrev S1x192x128 : Shape := ⟨3, ![1, 192, 128]⟩
abbrev S192x128 : Shape := ⟨2, ![192, 128]⟩
abbrev S192x14336 : Shape := ⟨2, ![192, 14336]⟩
abbrev S192x56x256 : Shape := ⟨3, ![192, 56, 256]⟩
abbrev S192x56x224 : Shape := ⟨3, ![192, 56, 224]⟩

abbrev nBuf : Space → Nat
  | .hbm => 40
  | .vmem => 20
  | .smem => 0
  | _ => 0

abbrev bufTy : (tb : Table) → Fin (tcTables nBuf tb) → BufTy
  | .hbm, ⟨0, _⟩ => ⟨S2x96x224x224, .f32⟩
  | .hbm, ⟨1, _⟩ => ⟨S2x8x56x56, .f32⟩
  | .hbm, ⟨2, _⟩ => ⟨S2x9x64, .f32⟩
  | .hbm, ⟨3, _⟩ => ⟨S2x8, .i32⟩
  | .hbm, ⟨4, _⟩ => ⟨S96, .f32⟩
  | .hbm, ⟨5, _⟩ => ⟨S96, .f32⟩
  | .hbm, ⟨6, _⟩ => ⟨S8x64x64, .f32⟩
  | .hbm, ⟨7, _⟩ => ⟨S8x64, .f32⟩
  | .hbm, ⟨8, _⟩ => ⟨S96x64x3x3, .f32⟩
  | .hbm, ⟨9, _⟩ => ⟨S96, .f32⟩
  | .hbm, ⟨10, _⟩ => ⟨S96x64x3x3, .f32⟩
  | .hbm, ⟨11, _⟩ => ⟨S96, .f32⟩
  | .hbm, ⟨12, _⟩ => ⟨S56x256, .f32⟩
  | .hbm, ⟨13, _⟩ => ⟨S512x9, .f32⟩
  | .hbm, ⟨14, _⟩ => ⟨S_, .i32⟩
  | .hbm, ⟨15, _⟩ => ⟨S2x8, .i32⟩
  | .hbm, ⟨16, _⟩ => ⟨S2x8, .i1⟩
  | .hbm, ⟨17, _⟩ => ⟨S2x8x1, .i1⟩
  | .hbm, ⟨18, _⟩ => ⟨S2x8x64, .f32⟩
  | .hbm, ⟨19, _⟩ => ⟨S2x1x64, .f32⟩
  | .hbm, ⟨20, _⟩ => ⟨S2x8x64, .i1⟩
  | .hbm, ⟨21, _⟩ => ⟨S2x8x64, .f32⟩
  | .hbm, ⟨22, _⟩ => ⟨S2x8x64, .f32⟩
  | .hbm, ⟨23, _⟩ => ⟨S2x512x1, .f32⟩
  | .hbm, ⟨24, _⟩ => ⟨S64x8x64, .f32⟩
  | .hbm, ⟨25, _⟩ => ⟨S64x512, .f32⟩
  | .hbm, ⟨26, _⟩ => ⟨S64x8, .f32⟩
  | .hbm, ⟨27, _⟩ => ⟨S_, .f32⟩
  | .hbm, ⟨28, _⟩ => ⟨S64x1, .f32⟩
  | .hbm, ⟨29, _⟩ => ⟨S64x9, .f32⟩
  | .hbm, ⟨30, _⟩ => ⟨S3x3x96x64, .f32⟩
  | .hbm, ⟨31, _⟩ => ⟨S864x64, .f32⟩
  | .hbm, ⟨32, _⟩ => ⟨S3x3x96x64, .f32⟩
  | .hbm, ⟨33, _⟩ => ⟨S864x64, .f32⟩
  | .hbm, ⟨34, _⟩ => ⟨S1728x64, .f32⟩
  | .hbm, ⟨35, _⟩ => ⟨S1x96, .f32⟩
  | .hbm, ⟨36, _⟩ => ⟨S1x96, .f32⟩
  | .hbm, ⟨37, _⟩ => ⟨S1x96, .f32⟩
  | .hbm, ⟨38, _⟩ => ⟨S1x96, .f32⟩
  | .hbm, ⟨39, _⟩ => ⟨S2x96x224x224, .f32⟩
  | .local _ .vmem, ⟨0, _⟩ => ⟨S1x96x56x224, .f32⟩
  | .local _ .vmem, ⟨1, _⟩ => ⟨S1x96x56x224, .f32⟩
  | .local _ .vmem, ⟨2, _⟩ => ⟨S1x8x56x56, .f32⟩
  | .local _ .vmem, ⟨3, _⟩ => ⟨S1x8x56x56, .f32⟩
  | .local _ .vmem, ⟨4, _⟩ => ⟨S56x256, .f32⟩
  | .local _ .vmem, ⟨5, _⟩ => ⟨S2x512x1, .f32⟩
  | .local _ .vmem, ⟨6, _⟩ => ⟨S512x9, .f32⟩
  | .local _ .vmem, ⟨7, _⟩ => ⟨S64x512, .f32⟩
  | .local _ .vmem, ⟨8, _⟩ => ⟨S64x9, .f32⟩
  | .local _ .vmem, ⟨9, _⟩ => ⟨S1728x64, .f32⟩
  | .local _ .vmem, ⟨10, _⟩ => ⟨S1x96, .f32⟩
  | .local _ .vmem, ⟨11, _⟩ => ⟨S1x96, .f32⟩
  | .local _ .vmem, ⟨12, _⟩ => ⟨S1x96, .f32⟩
  | .local _ .vmem, ⟨13, _⟩ => ⟨S1x96, .f32⟩
  | .local _ .vmem, ⟨14, _⟩ => ⟨S1x96x56x224, .f32⟩
  | .local _ .vmem, ⟨15, _⟩ => ⟨S1x96x56x224, .f32⟩
  | .local _ .vmem, ⟨16, _⟩ => ⟨S128x14336, .bf16⟩
  | .local _ .vmem, ⟨17, _⟩ => ⟨S9x4x16x256, .bf16⟩
  | .local _ .vmem, ⟨18, _⟩ => ⟨S2x96x224, .f32⟩
  | .local _ .vmem, ⟨19, _⟩ => ⟨S2x192x128, .bf16⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 8], ![false, false]⟩

def k0_cond5 (i : grid0.Coords) : BitVec 1 :=
  let arg0 : BitVec 32 := BitVec.ofNat 32 (i 0).val
  let c1_i32_21 : BitVec 32 := 1#32
  let v45 : BitVec 1 := Scalar.cmpi .eq arg0 c1_i32_21
  let v46 : BitVec 32 := Scalar.extui v45
  let c0_i32_22 : BitVec 32 := 0#32
  let v47 : BitVec 1 := Scalar.cmpi .ne v46 c0_i32_22
  v47

def k0_off1 (i : grid0.Coords) : Fin 4 → Nat :=
  let c0 : Index := 0#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v48 : Index := Scalar.indexCast v26
  let c0_23 : Index := 0#32
  let c0_24 : Index := 0#32
  ![0, v48.toNat, 0, 0]
def k0_off2 (i : grid0.Coords) : Fin 3 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v91 : Index := Scalar.indexCast v16
  let c0_35 : Index := 0#32
  let c0_36 : Index := 0#32
  ![v91.toNat, 0, 0]
def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.select v0 v17 c0_i32_5
  let c0_i32_6 : BitVec 32 := 0#32
  let c0_i32_7 : BitVec 32 := 0#32
  let c0_i32_8 : BitVec 32 := 0#32
  let c0_i32_9 : BitVec 32 := 0#32
  ![v18.toNat, c0_i32_6.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.select v0 v17 c1_i32_5
  let c1_i32_6 : BitVec 32 := 1#32
  let v19 : BitVec 1 := Scalar.cmpi .eq arg0 c1_i32_6
  let c4_i32_7 : BitVec 32 := 4#32
  let c0_i32_8 : BitVec 32 := 0#32
  let v20 : BitVec 1 := Scalar.cmpi .eq c4_i32_7 c0_i32_8
  let c1_i32_9 : BitVec 32 := 1#32
  let v21 : BitVec 32 := Scalar.select v20 c1_i32_9 c4_i32_7
  let v22 : BitVec 32 := Scalar.remsi arg1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let v30 : BitVec 32 := Scalar.select v19 v29 c3_i32
  let c0_i32_13 : BitVec 32 := 0#32
  let c0_i32_14 : BitVec 32 := 0#32
  let c0_i32_15 : BitVec 32 := 0#32
  ![v18.toNat, c0_i32_13.toNat, v30.toNat, c0_i32_14.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S56x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1728x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x96x56x224 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x96x224x224 : Shape := ⟨4, ![2, 96, 224, 224]⟩
abbrev S2x8x56x56 : Shape := ⟨4, ![2, 8, 56, 56]⟩
abbrev S2x9x64 : Shape := ⟨3, ![2, 9, 64]⟩
abbrev S2x8 : Shape := ⟨2, ![2, 8]⟩
abbrev S96 : Shape := ⟨1, ![96]⟩
abbrev S8x64x64 : Shape := ⟨3, ![8, 64, 64]⟩
abbrev S8x64 : Shape := ⟨2, ![8, 64]⟩
abbrev S96x64x3x3 : Shape := ⟨4, ![96, 64, 3, 3]⟩
abbrev S2x8x56x4x56 : Shape := ⟨5, ![2, 8, 56, 4, 56]⟩
abbrev S2x8x224x56 : Shape := ⟨4, ![2, 8, 224, 56]⟩
abbrev S2x8x224x56x4 : Shape := ⟨5, ![2, 8, 224, 56, 4]⟩
abbrev S2x8x224x224 : Shape := ⟨4, ![2, 8, 224, 224]⟩
abbrev S_ : Shape := ⟨0, ![]⟩
abbrev S1x96x1x1 : Shape := ⟨4, ![1, 96, 1, 1]⟩
abbrev S2x64x224x224 : Shape := ⟨4, ![2, 64, 224, 224]⟩
abbrev S2x1 : Shape := ⟨2, ![2, 1]⟩
abbrev S2 : Shape := ⟨1, ![2]⟩
abbrev S2x1x64 : Shape := ⟨3, ![2, 1, 64]⟩
abbrev S2x64 : Shape := ⟨2, ![2, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2x1x224x224 : Shape := ⟨4, ![2, 1, 224, 224]⟩
abbrev S2x224x224 : Shape := ⟨3, ![2, 224, 224]⟩
abbrev S2x64x1x1 : Shape := ⟨4, ![2, 64, 1, 1]⟩
abbrev S2x64x226x226 : Shape := ⟨4, ![2, 64, 226, 226]⟩
abbrev S96x64x1x1 : Shape := ⟨4, ![96, 64, 1, 1]⟩
abbrev S96x64 : Shape := ⟨2, ![96, 64]⟩
abbrev S2x224x224x96 : Shape := ⟨4, ![2, 224, 224, 96]⟩

abbrev nBuf : Space → Nat
  | .hbm => 425
  | .vmem => 0
  | .smem => 0
  | _ => 0

abbrev hbmTy0_0 (i : Nat) : BufTy := match i % 128 with
  | 0 => ⟨S2x96x224x224, .f32⟩
  | 1 => ⟨S2x8x56x56, .f32⟩
  | 2 => ⟨S2x9x64, .f32⟩
  | 3 => ⟨S2x8, .i32⟩
  | 4 => ⟨S96, .f32⟩
  | 5 => ⟨S96, .f32⟩
  | 6 => ⟨S8x64x64, .f32⟩
  | 7 => ⟨S8x64, .f32⟩
  | 8 => ⟨S96x64x3x3, .f32⟩
  | 9 => ⟨S96, .f32⟩
  | 10 => ⟨S96x64x3x3, .f32⟩
  | 11 => ⟨S96, .f32⟩
  | 12 => ⟨S2x8x56x4x56, .f32⟩
  | 13 => ⟨S2x8x224x56, .f32⟩
  | 14 => ⟨S2x8x224x56x4, .f32⟩
  | 15 => ⟨S2x8x224x224, .f32⟩
  | 16 => ⟨S_, .f32⟩
  | 17 => ⟨S2x8x224x224, .f32⟩
  | 18 => ⟨S2x8x224x224, .i1⟩
  | 19 => ⟨S_, .f32⟩
  | 20 => ⟨S96, .f32⟩
  | 21 => ⟨S_, .f32⟩
  | 22 => ⟨S96, .f32⟩
  | 23 => ⟨S96, .f32⟩
  | 24 => ⟨S1x96x1x1, .f32⟩
  | 25 => ⟨S2x96x224x224, .f32⟩
  | 26 => ⟨S2x96x224x224, .f32⟩
  | 27 => ⟨S2x96x224x224, .f32⟩
  | 28 => ⟨S_, .f32⟩
  | 29 => ⟨S96, .f32⟩
  | 30 => ⟨S_, .f32⟩
  | 31 => ⟨S96, .f32⟩
  | 32 => ⟨S96, .f32⟩
  | 33 => ⟨S1x96x1x1, .f32⟩
  | 34 => ⟨S_, .f32⟩
  | 35 => ⟨S1x96x1x1, .f32⟩
  | 36 => ⟨S1x96x1x1, .f32⟩
  | 37 => ⟨S1x96x1x1, .f32⟩
  | 38 => ⟨S2x96x224x224, .f32⟩
  | 39 => ⟨S2x96x224x224, .f32⟩
  | 40 => ⟨S1x96x1x1, .f32⟩
  | 41 => ⟨S2x96x224x224, .f32⟩
  | 42 => ⟨S2x96x224x224, .f32⟩
  | 43 => ⟨S1x96x1x1, .f32⟩
  | 44 => ⟨S2x96x224x224, .f32⟩
  | 45 => ⟨S2x96x224x224, .f32⟩
  | 46 => ⟨S_, .f32⟩
  | 47 => ⟨S2x64x224x224, .f32⟩
  | 48 => ⟨S2x1, .i32⟩
  | 49 => ⟨S2, .i32⟩
  | 50 => ⟨S_, .i32⟩
  | 51 => ⟨S2, .i32⟩
  | 52 => ⟨S2, .i1⟩
  | 53 => ⟨S2x1, .i1⟩
  | 54 => ⟨S2x1x64, .f32⟩
  | 55 => ⟨S2x64, .f32⟩
  | 56 => ⟨S2x1x64, .f32⟩
  | 57 => ⟨S2x64, .f32⟩
  | 58 => ⟨S2x64, .i1⟩
  | 59 => ⟨S2x64, .f32⟩
  | 60 => ⟨S1x64x64, .f32⟩
  | 61 => ⟨S64x64, .f32⟩
  | 62 => ⟨S64x64, .f32⟩
  | 63 => ⟨S2x64, .f32⟩
  | 64 => ⟨S1x64, .f32⟩
  | 65 => ⟨S64, .f32⟩
  | 66 => ⟨S1x64, .f32⟩
  | 67 => ⟨S2x64, .f32⟩
  | 68 => ⟨S2x64, .f32⟩
  | 69 => ⟨S_, .f32⟩
  | 70 => ⟨S2x64, .f32⟩
  | 71 => ⟨S2x64, .f32⟩
  | 72 => ⟨S2x1x224x224, .i1⟩
  | 73 => ⟨S2x224x224, .i1⟩
  | 74 => ⟨S2x1x224x224, .i1⟩
  | 75 => ⟨S2x64x1x1, .f32⟩
  | 76 => ⟨S2x64x224x224, .i1⟩
  | 77 => ⟨S2x64x224x224, .f32⟩
  | 78 => ⟨S2x64x224x224, .f32⟩
  | 79 => ⟨S2x1, .i32⟩
  | 80 => ⟨S2, .i32⟩
  | 81 => ⟨S_, .i32⟩
  | 82 => ⟨S2, .i32⟩
  | 83 => ⟨S2, .i1⟩
  | 84 => ⟨S2x1, .i1⟩
  | 85 => ⟨S2x1x64, .f32⟩
  | 86 => ⟨S2x64, .f32⟩
  | 87 => ⟨S2x1x64, .f32⟩
  | 88 => ⟨S2x64, .f32⟩
  | 89 => ⟨S2x64, .i1⟩
  | 90 => ⟨S2x64, .f32⟩
  | 91 => ⟨S1x64x64, .f32⟩
  | 92 => ⟨S64x64, .f32⟩
  | 93 => ⟨S64x64, .f32⟩
  | 94 => ⟨S2x64, .f32⟩
  | 95 => ⟨S1x64, .f32⟩
  | 96 => ⟨S64, .f32⟩
  | 97 => ⟨S1x64, .f32⟩
  | 98 => ⟨S2x64, .f32⟩
  | 99 => ⟨S2x64, .f32⟩
  | 100 => ⟨S_, .f32⟩
  | 101 => ⟨S2x64, .f32⟩
  | 102 => ⟨S2x64, .f32⟩
  | 103 => ⟨S2x1x224x224, .i1⟩
  | 104 => ⟨S2x224x224, .i1⟩
  | 105 => ⟨S2x1x224x224, .i1⟩
  | 106 => ⟨S2x64x1x1, .f32⟩
  | 107 => ⟨S2x64x224x224, .i1⟩
  | 108 => ⟨S2x64x224x224, .f32⟩
  | 109 => ⟨S2x64x224x224, .f32⟩
  | 110 => ⟨S2x1, .i32⟩
  | 111 => ⟨S2, .i32⟩
  | 112 => ⟨S_, .i32⟩
  | 113 => ⟨S2, .i32⟩
  | 114 => ⟨S2, .i1⟩
  | 115 => ⟨S2x1, .i1⟩
  | 116 => ⟨S2x1x64, .f32⟩
  | 117 => ⟨S2x64, .f32⟩
  | 118 => ⟨S2x1x64, .f32⟩
  | 119 => ⟨S2x64, .f32⟩
  | 120 => ⟨S2x64, .i1⟩
  | 121 => ⟨S2x64, .f32⟩
  | 122 => ⟨S1x64x64, .f32⟩
  | 123 => ⟨S64x64, .f32⟩
  | 124 => ⟨S64x64, .f32⟩
  | 125 => ⟨S2x64, .f32⟩
  | 126 => ⟨S1x64, .f32⟩
  | 127 => ⟨S64, .f32⟩
  | _ => ⟨S2x96x224x224, .f32⟩

abbrev hbmTy0_1 (i : Nat) : BufTy := match i % 128 with
  | 0 => ⟨S1x64, .f32⟩
  | 1 => ⟨S2x64, .f32⟩
  | 2 => ⟨S2x64, .f32⟩
  | 3 => ⟨S_, .f32⟩
  | 4 => ⟨S2x64, .f32⟩
  | 5 => ⟨S2x64, .f32⟩
  | 6 => ⟨S2x1x224x224, .i1⟩
  | 7 => ⟨S2x224x224, .i1⟩
  | 8 => ⟨S2x1x224x224, .i1⟩
  | 9 => ⟨S2x64x1x1, .f32⟩
  | 10 => ⟨S2x64x224x224, .i1⟩
  | 11 => ⟨S2x64x224x224, .f32⟩
  | 12 => ⟨S2x64x224x224, .f32⟩
  | 13 => ⟨S2x1, .i32⟩
  | 14 => ⟨S2, .i32⟩
  | 15 => ⟨S_, .i32⟩
  | 16 => ⟨S2, .i32⟩
  | 17 => ⟨S2, .i1⟩
  | 18 => ⟨S2x1, .i1⟩
  | 19 => ⟨S2x1x64, .f32⟩
  | 20 => ⟨S2x64, .f32⟩
  | 21 => ⟨S2x1x64, .f32⟩
  | 22 => ⟨S2x64, .f32⟩
  | 23 => ⟨S2x64, .i1⟩
  | 24 => ⟨S2x64, .f32⟩
  | 25 => ⟨S1x64x64, .f32⟩
  | 26 => ⟨S64x64, .f32⟩
  | 27 => ⟨S64x64, .f32⟩
  | 28 => ⟨S2x64, .f32⟩
  | 29 => ⟨S1x64, .f32⟩
  | 30 => ⟨S64, .f32⟩
  | 31 => ⟨S1x64, .f32⟩
  | 32 => ⟨S2x64, .f32⟩
  | 33 => ⟨S2x64, .f32⟩
  | 34 => ⟨S_, .f32⟩
  | 35 => ⟨S2x64, .f32⟩
  | 36 => ⟨S2x64, .f32⟩
  | 37 => ⟨S2x1x224x224, .i1⟩
  | 38 => ⟨S2x224x224, .i1⟩
  | 39 => ⟨S2x1x224x224, .i1⟩
  | 40 => ⟨S2x64x1x1, .f32⟩
  | 41 => ⟨S2x64x224x224, .i1⟩
  | 42 => ⟨S2x64x224x224, .f32⟩
  | 43 => ⟨S2x64x224x224, .f32⟩
  | 44 => ⟨S2x1, .i32⟩
  | 45 => ⟨S2, .i32⟩
  | 46 => ⟨S_, .i32⟩
  | 47 => ⟨S2, .i32⟩
  | 48 => ⟨S2, .i1⟩
  | 49 => ⟨S2x1, .i1⟩
  | 50 => ⟨S2x1x64, .f32⟩
  | 51 => ⟨S2x64, .f32⟩
  | 52 => ⟨S2x1x64, .f32⟩
  | 53 => ⟨S2x64, .f32⟩
  | 54 => ⟨S2x64, .i1⟩
  | 55 => ⟨S2x64, .f32⟩
  | 56 => ⟨S1x64x64, .f32⟩
  | 57 => ⟨S64x64, .f32⟩
  | 58 => ⟨S64x64, .f32⟩
  | 59 => ⟨S2x64, .f32⟩
  | 60 => ⟨S1x64, .f32⟩
  | 61 => ⟨S64, .f32⟩
  | 62 => ⟨S1x64, .f32⟩
  | 63 => ⟨S2x64, .f32⟩
  | 64 => ⟨S2x64, .f32⟩
  | 65 => ⟨S_, .f32⟩
  | 66 => ⟨S2x64, .f32⟩
  | 67 => ⟨S2x64, .f32⟩
  | 68 => ⟨S2x1x224x224, .i1⟩
  | 69 => ⟨S2x224x224, .i1⟩
  | 70 => ⟨S2x1x224x224, .i1⟩
  | 71 => ⟨S2x64x1x1, .f32⟩
  | 72 => ⟨S2x64x224x224, .i1⟩
  | 73 => ⟨S2x64x224x224, .f32⟩
  | 74 => ⟨S2x64x224x224, .f32⟩
  | 75 => ⟨S2x1, .i32⟩
  | 76 => ⟨S2, .i32⟩
  | 77 => ⟨S_, .i32⟩
  | 78 => ⟨S2, .i32⟩
  | 79 => ⟨S2, .i1⟩
  | 80 => ⟨S2x1, .i1⟩
  | 81 => ⟨S2x1x64, .f32⟩
  | 82 => ⟨S2x64, .f32⟩
  | 83 => ⟨S2x1x64, .f32⟩
  | 84 => ⟨S2x64, .f32⟩
  | 85 => ⟨S2x64, .i1⟩
  | 86 => ⟨S2x64, .f32⟩
  | 87 => ⟨S1x64x64, .f32⟩
  | 88 => ⟨S64x64, .f32⟩
  | 89 => ⟨S64x64, .f32⟩
  | 90 => ⟨S2x64, .f32⟩
  | 91 => ⟨S1x64, .f32⟩
  | 92 => ⟨S64, .f32⟩
  | 93 => ⟨S1x64, .f32⟩
  | 94 => ⟨S2x64, .f32⟩
  | 95 => ⟨S2x64, .f32⟩
  | 96 => ⟨S_, .f32⟩
  | 97 => ⟨S2x64, .f32⟩
  | 98 => ⟨S2x64, .f32⟩
  | 99 => ⟨S2x1x224x224, .i1⟩
  | 100 => ⟨S2x224x224, .i1⟩
  | 101 => ⟨S2x1x224x224, .i1⟩
  | 102 => ⟨S2x64x1x1, .f32⟩
  | 103 => ⟨S2x64x224x224, .i1⟩
  | 104 => ⟨S2x64x224x224, .f32⟩
  | 105 => ⟨S2x64x224x224, .f32⟩
  | 106 => ⟨S2x1, .i32⟩
  | 107 => ⟨S2, .i32⟩
  | 108 => ⟨S_, .i32⟩
  | 109 => ⟨S2, .i32⟩
  | 110 => ⟨S2, .i1⟩
  | 111 => ⟨S2x1, .i1⟩
  | 112 => ⟨S2x1x64, .f32⟩
  | 113 => ⟨S2x64, .f32⟩
  | 114 => ⟨S2x1x64, .f32⟩
  | 115 => ⟨S2x64, .f32⟩
  | 116 => ⟨S2x64, .i1⟩
  | 117 => ⟨S2x64, .f32⟩
  | 118 => ⟨S1x64x64, .f32⟩
  | 119 => ⟨S64x64, .f32⟩
  | 120 => ⟨S64x64, .f32⟩
  | 121 => ⟨S2x64, .f32⟩
  | 122 => ⟨S1x64, .f32⟩
  | 123 => ⟨S64, .f32⟩
  | 124 => ⟨S1x64, .f32⟩
  | 125 => ⟨S2x64, .f32⟩
  | 126 => ⟨S2x64, .f32⟩
  | 127 => ⟨S_, .f32⟩
  | _ => ⟨S2x96x224x224, .f32⟩

abbrev hbmTy0_2 (i : Nat) : BufTy := match i % 128 with
  | 0 => ⟨S2x64, .f32⟩
  | 1 => ⟨S2x64, .f32⟩
  | 2 => ⟨S2x1x224x224, .i1⟩
  | 3 => ⟨S2x224x224, .i1⟩
  | 4 => ⟨S2x1x224x224, .i1⟩
  | 5 => ⟨S2x64x1x1, .f32⟩
  | 6 => ⟨S2x64x224x224, .i1⟩
  | 7 => ⟨S2x64x224x224, .f32⟩
  | 8 => ⟨S2x64x224x224, .f32⟩
  | 9 => ⟨S2x1, .i32⟩
  | 10 => ⟨S2, .i32⟩
  | 11 => ⟨S_, .i32⟩
  | 12 => ⟨S2, .i32⟩
  | 13 => ⟨S2, .i1⟩
  | 14 => ⟨S2x1, .i1⟩
  | 15 => ⟨S2x1x64, .f32⟩
  | 16 => ⟨S2x64, .f32⟩
  | 17 => ⟨S2x1x64, .f32⟩
  | 18 => ⟨S2x64, .f32⟩
  | 19 => ⟨S2x64, .i1⟩
  | 20 => ⟨S2x64, .f32⟩
  | 21 => ⟨S1x64x64, .f32⟩
  | 22 => ⟨S64x64, .f32⟩
  | 23 => ⟨S64x64, .f32⟩
  | 24 => ⟨S2x64, .f32⟩
  | 25 => ⟨S1x64, .f32⟩
  | 26 => ⟨S64, .f32⟩
  | 27 => ⟨S1x64, .f32⟩
  | 28 => ⟨S2x64, .f32⟩
  | 29 => ⟨S2x64, .f32⟩
  | 30 => ⟨S_, .f32⟩
  | 31 => ⟨S2x64, .f32⟩
  | 32 => ⟨S2x64, .f32⟩
  | 33 => ⟨S2x1x224x224, .i1⟩
  | 34 => ⟨S2x224x224, .i1⟩
  | 35 => ⟨S2x1x224x224, .i1⟩
  | 36 => ⟨S2x64x1x1, .f32⟩
  | 37 => ⟨S2x64x224x224, .i1⟩
  | 38 => ⟨S2x64x224x224, .f32⟩
  | 39 => ⟨S2x64x224x224, .f32⟩
  | 40 => ⟨S_, .i32⟩
  | 41 => ⟨S_, .f32⟩
  | 42 => ⟨S2x64x226x226, .f32⟩
  | 43 => ⟨S96x64x1x1, .f32⟩
  | 44 => ⟨S96x64, .f32⟩
  | 45 => ⟨S2x64x224x224, .f32⟩
  | 46 => ⟨S2x224x224x96, .f32⟩
  | 47 => ⟨S2x96x224x224, .f32⟩
  | 48 => ⟨S_, .f32⟩
  | 49 => ⟨S2x96x224x224, .f32⟩
  | 50 => ⟨S2x96x224x224, .f32⟩
  | 51 => ⟨S96x64x1x1, .f32⟩
  | 52 => ⟨S96x64, .f32⟩
  | 53 => ⟨S2x64x224x224, .f32⟩
  | 54 => ⟨S2x224x224x96, .f32⟩
  | 55 => ⟨S2x96x224x224, .f32⟩
  | 56 => ⟨S2x96x224x224, .f32⟩
  | 57 => ⟨S96x64x1x1, .f32⟩
  | 58 => ⟨S96x64, .f32⟩
  | 59 => ⟨S2x64x224x224, .f32⟩
  | 60 => ⟨S2x224x224x96, .f32⟩
  | 61 => ⟨S2x96x224x224, .f32⟩
  | 62 => ⟨S2x96x224x224, .f32⟩
  | 63 => ⟨S96x64x1x1, .f32⟩
  | 64 => ⟨S96x64, .f32⟩
  | 65 => ⟨S2x64x224x224, .f32⟩
  | 66 => ⟨S2x224x224x96, .f32⟩
  | 67 => ⟨S2x96x224x224, .f32⟩
  | 68 => ⟨S2x96x224x224, .f32⟩
  | 69 => ⟨S96x64x1x1, .f32⟩
  | 70 => ⟨S96x64, .f32⟩
  | 71 => ⟨S2x64x224x224, .f32⟩
  | 72 => ⟨S2x224x224x96, .f32⟩
  | 73 => ⟨S2x96x224x224, .f32⟩
  | 74 => ⟨S2x96x224x224, .f32⟩
  | 75 => ⟨S96x64x1x1, .f32⟩
  | 76 => ⟨S96x64, .f32⟩
  | 77 => ⟨S2x64x224x224, .f32⟩
  | 78 => ⟨S2x224x224x96, .f32⟩
  | 79 => ⟨S2x96x224x224, .f32⟩
  | 80 => ⟨S2x96x224x224, .f32⟩
  | 81 => ⟨S96x64x1x1, .f32⟩
  | 82 => ⟨S96x64, .f32⟩
  | 83 => ⟨S2x64x224x224, .f32⟩
  | 84 => ⟨S2x224x224x96, .f32⟩
  | 85 => ⟨S2x96x224x224, .f32⟩
  | 86 => ⟨S2x96x224x224, .f32⟩
  | 87 => ⟨S96x64x1x1, .f32⟩
  | 88 => ⟨S96x64, .f32⟩
  | 89 => ⟨S2x64x224x224, .f32⟩
  | 90 => ⟨S2x224x224x96, .f32⟩
  | 91 => ⟨S2x96x224x224, .f32⟩
  | 92 => ⟨S2x96x224x224, .f32⟩
  | 93 => ⟨S96x64x1x1, .f32⟩
  | 94 => ⟨S96x64, .f32⟩
  | 95 => ⟨S2x64x224x224, .f32⟩
  | 96 => ⟨S2x224x224x96, .f32⟩
  | 97 => ⟨S2x96x224x224, .f32⟩
  | 98 => ⟨S2x96x224x224, .f32⟩
  | 99 => ⟨S1x96x1x1, .f32⟩
  | 100 => ⟨S2x96x224x224, .f32⟩
  | 101 => ⟨S2x96x224x224, .f32⟩
  | 102 => ⟨S_, .i32⟩
  | 103 => ⟨S_, .f32⟩
  | 104 => ⟨S2x64x226x226, .f32⟩
  | 105 => ⟨S96x64x1x1, .f32⟩
  | 106 => ⟨S96x64, .f32⟩
  | 107 => ⟨S2x64x224x224, .f32⟩
  | 108 => ⟨S2x224x224x96, .f32⟩
  | 109 => ⟨S2x96x224x224, .f32⟩
  | 110 => ⟨S_, .f32⟩
  | 111 => ⟨S2x96x224x224, .f32⟩
  | 112 => ⟨S2x96x224x224, .f32⟩
  | 113 => ⟨S96x64x1x1, .f32⟩
  | 114 => ⟨S96x64, .f32⟩
  | 115 => ⟨S2x64x224x224, .f32⟩
  | 116 => ⟨S2x224x224x96, .f32⟩
  | 117 => ⟨S2x96x224x224, .f32⟩
  | 118 => ⟨S2x96x224x224, .f32⟩
  | 119 => ⟨S96x64x1x1, .f32⟩
  | 120 => ⟨S96x64, .f32⟩
  | 121 => ⟨S2x64x224x224, .f32⟩
  | 122 => ⟨S2x224x224x96, .f32⟩
  | 123 => ⟨S2x96x224x224, .f32⟩
  | 124 => ⟨S2x96x224x224, .f32⟩
  | 125 => ⟨S96x64x1x1, .f32⟩
  | 126 => ⟨S96x64, .f32⟩
  | 127 => ⟨S2x64x224x224, .f32⟩
  | _ => ⟨S2x96x224x224, .f32⟩

abbrev hbmTy0_3 (i : Nat) : BufTy := match i % 128 with
  | 0 => ⟨S2x224x224x96, .f32⟩
  | 1 => ⟨S2x96x224x224, .f32⟩
  | 2 => ⟨S2x96x224x224, .f32⟩
  | 3 => ⟨S96x64x1x1, .f32⟩
  | 4 => ⟨S96x64, .f32⟩
  | 5 => ⟨S2x64x224x224, .f32⟩
  | 6 => ⟨S2x224x224x96, .f32⟩
  | 7 => ⟨S2x96x224x224, .f32⟩
  | 8 => ⟨S2x96x224x224, .f32⟩
  | 9 => ⟨S96x64x1x1, .f32⟩
  | 10 => ⟨S96x64, .f32⟩
  | 11 => ⟨S2x64x224x224, .f32⟩
  | 12 => ⟨S2x224x224x96, .f32⟩
  | 13 => ⟨S2x96x224x224, .f32⟩
  | 14 => ⟨S2x96x224x224, .f32⟩
  | 15 => ⟨S96x64x1x1, .f32⟩
  | 16 => ⟨S96x64, .f32⟩
  | 17 => ⟨S2x64x224x224, .f32⟩
  | 18 => ⟨S2x224x224x96, .f32⟩
  | 19 => ⟨S2x96x224x224, .f32⟩
  | 20 => ⟨S2x96x224x224, .f32⟩
  | 21 => ⟨S96x64x1x1, .f32⟩
  | 22 => ⟨S96x64, .f32⟩
  | 23 => ⟨S2x64x224x224, .f32⟩
  | 24 => ⟨S2x224x224x96, .f32⟩
  | 25 => ⟨S2x96x224x224, .f32⟩
  | 26 => ⟨S2x96x224x224, .f32⟩
  | 27 => ⟨S96x64x1x1, .f32⟩
  | 28 => ⟨S96x64, .f32⟩
  | 29 => ⟨S2x64x224x224, .f32⟩
  | 30 => ⟨S2x224x224x96, .f32⟩
  | 31 => ⟨S2x96x224x224, .f32⟩
  | 32 => ⟨S2x96x224x224, .f32⟩
  | 33 => ⟨S1x96x1x1, .f32⟩
  | 34 => ⟨S2x96x224x224, .f32⟩
  | 35 => ⟨S2x96x224x224, .f32⟩
  | 36 => ⟨S_, .f32⟩
  | 37 => ⟨S2x96x224x224, .f32⟩
  | 38 => ⟨S2x96x224x224, .f32⟩
  | 39 => ⟨S2x96x224x224, .f32⟩
  | 40 => ⟨S2x96x224x224, .f32⟩
  | _ => ⟨S2x96x224x224, .f32⟩

abbrev hbmTy (i : Nat) : BufTy := match i / 128 with
  | 0 => hbmTy0_0 i
  | 1 => hbmTy0_1 i
  | 2 => hbmTy0_2 i
  | 3 => hbmTy0_3 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_v0 : Ref sig .tc := ⟨.hbm, 76, rfl⟩
abbrev main_call1_v1 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call3_v0 : Ref sig .tc := ⟨.hbm, 107, rfl⟩
abbrev main_call3_v1 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_9 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call4_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_10 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_call5_v0 : Ref sig .tc := ⟨.hbm, 138, rfl⟩
abbrev main_call5_v1 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_11 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call6_v0 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_12 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call7_v0 : Ref sig .tc := ⟨.hbm, 169, rfl⟩
abbrev main_call7_v1 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_13 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_call8_v0 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_14 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_call9_v0 : Ref sig .tc := ⟨.hbm, 200, rfl⟩
abbrev main_call9_v1 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_c_15 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_call10_v0 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_16 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_call11_v0 : Ref sig .tc := ⟨.hbm, 231, rfl⟩
abbrev main_call11_v1 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_c_17 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_call12_v0 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_18 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_call13_v0 : Ref sig .tc := ⟨.hbm, 262, rfl⟩
abbrev main_call13_v1 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_c_19 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_call14_v0 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_cst_20 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_call15_v0 : Ref sig .tc := ⟨.hbm, 293, rfl⟩
abbrev main_call15_v1 : Ref sig .tc := ⟨.hbm, 294, rfl⟩
abbrev main_v236 : Ref sig .tc := ⟨.hbm, 295, rfl⟩
abbrev main_c_21 : Ref sig .tc := ⟨.hbm, 296, rfl⟩
abbrev main_call16_v0 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_cst_22 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_c_23 : Ref sig .tc := ⟨.hbm, 358, rfl⟩
abbrev main_call17_v0 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_cst_24 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_cst_25 : Ref sig .tc := ⟨.hbm, 420, rfl⟩
abbrev main_v355 : Ref sig .tc := ⟨.hbm, 421, rfl⟩
abbrev main_v356 : Ref sig .tc := ⟨.hbm, 422, rfl⟩
abbrev main_v357 : Ref sig .tc := ⟨.hbm, 423, rfl⟩
abbrev main_v358 : Ref sig .tc := ⟨.hbm, 424, rfl⟩

abbrev nD : Nat := 1
abbrev τ : Topo := Topo.v7x

variable {F : FTy → Type} [FloatOps F]
-- ==== Proof.KernelIdealBody.lean ====
/-
  The body of the fused kernel, run once in each of the five ways its guarded regions open on the grid.

  The grid is (2, 8): in the first phase a point adds its block to the per-column statistics, in the second it forms
  its output block.  What the body leaves in the output block and in the four scratch buffers is found by the run, as
  the witness of a subtype over the contents that it was handed.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer contents on core `c`. -/
abbrev Bf (c : Dev nD) {sp : Space} {S : Shape} {e : EltTy} (M : Memref sig .tc sp S e) : Type := Buf (Elt F) (M.view.loc (c : Thread nD τ))
/-- Memref `M`'s buffer held whole on core `c` at the contents `f`. -/
abbrev pt (c : Dev nD) {sp : Space} {S : Shape} {e : EltTy} (M : Memref sig .tc sp S e) (f : Bf (F := F) c M) : sProp 𝕄 :=
  M.view.loc (c : Thread nD τ) ↦{fullShare} f

/-- The grid point's first coordinate, the phase, as a word. -/
abbrev a0 (i : grid0.Coords) : BitVec 32 := BitVec.ofNat 32 (i 0).val
/-- The grid point's second coordinate, the block, as a word. -/
abbrev a1 (i : grid0.Coords) : BitVec 32 := BitVec.ofNat 32 (i 1).val
/-- The row tile of the point as the kernel computes it: the block's number modulo four, floored. -/
abbrev tw (i : grid0.Coords) : BitVec 32 :=
  Scalar.select (Scalar.andi (Scalar.xori (Scalar.cmpi .slt (Scalar.remsi (a1 i) (Scalar.select (Scalar.cmpi .eq 4#32 0#32) 1#32 4#32)) 0#32)
    (Scalar.cmpi .slt (Scalar.select (Scalar.cmpi .eq 4#32 0#32) 1#32 4#32) 0#32))
    (Scalar.cmpi .ne (Scalar.remsi (a1 i) (Scalar.select (Scalar.cmpi .eq 4#32 0#32) 1#32 4#32)) 0#32))
    (Scalar.addi (Scalar.remsi (a1 i) (Scalar.select (Scalar.cmpi .eq 4#32 0#32) 1#32 4#32)) (Scalar.select (Scalar.cmpi .eq 4#32 0#32) 1#32 4#32))
    (Scalar.remsi (a1 i) (Scalar.select (Scalar.cmpi .eq 4#32 0#32) 1#32 4#32))
/-- The first guard: first phase, first block. -/
abbrev c1 (i : grid0.Coords) : Prop := Scalar.cmpi .ne (Scalar.extui (Scalar.andi (Scalar.cmpi .eq (a0 i) 0#32) (Scalar.cmpi .eq (a1 i) 0#32)) : BitVec 32) 0#32 = 1#1
/-- The second guard: first phase. -/
abbrev c2 (i : grid0.Coords) : Prop := Scalar.cmpi .ne (Scalar.extui (Scalar.cmpi .eq (a0 i) 0#32) : BitVec 32) 0#32 = 1#1
/-- The third guard: second phase, first block. -/
abbrev c3 (i : grid0.Coords) : Prop := Scalar.cmpi .ne (Scalar.extui (Scalar.andi (Scalar.cmpi .eq (a0 i) 1#32) (Scalar.cmpi .eq (a1 i) 0#32)) : BitVec 32) 0#32 = 1#1
/-- The fourth guard: second phase, first row tile of an image. -/
abbrev c4 (i : grid0.Coords) : Prop := Scalar.cmpi .ne (Scalar.extui (Scalar.andi (Scalar.cmpi .eq (a0 i) 1#32) (Scalar.cmpi .eq (tw i) 0#32)) : BitVec 32) 0#32 = 1#1

/-- The point's region-mask tile: the block's number modulo four. -/
theorem off1_eq (i : grid0.Coords) : k0_off1 i = ![0, (i 1).val % 4, 0, 0] := by
  revert i
  decide +kernel
/-- The point's coefficient slab: the block's number over four. -/
theorem off2_eq (i : grid0.Coords) : k0_off2 i = ![(i 1).val / 4, 0, 0] := by
  revert i
  decide +kernel
/-- Where the masks are built the point's tile is the first. -/
theorem off1_first (i : grid0.Coords) : c4 i → k0_off1 i = ![0, 0, 0, 0] := by
  revert i
  decide +kernel
/-- Where the coefficient table is built the point's slab is the first. -/
theorem off2_first (i : grid0.Coords) : c3 i → k0_off2 i = ![0, 0, 0] := by
  revert i
  decide +kernel

/-- The body at the first point, where it clears the statistics, writes the constant rows of the tap scratch and adds the point's block to the statistics: what it leaves in the output block and
    the four scratch buffers, with the proof that it runs to its end and leaves its inputs as they were. -/
def runA (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18)
    (hc1 : c1 i) (hc2 : c2 i) (hc3 : ¬ c3 i) (hc4 : ¬ c4 i) (hc5 : ¬ k0_cond5 i = 1#1) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_⟩, fun E Q => ?run⟩
  case run =>
    iintro ⟨H2, H3, H4, H5, H6, H7, H8, H9, H10, H11, H12, H13, H14, H15, H16, H17, H18, Hk⟩
    rw [cc0__fused_kernel_eq_skeleton]
    unfold cc0__fused_kernel_skel
    sl_exec_parts (disch := first | sl_exact hc1 | sl_exact hc2 | sl_exact hc3 | sl_exact hc4 | sl_exact hc5)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body at the other points of the first phase, where it adds the point's block to the statistics: what it leaves in the output block and
    the four scratch buffers, with the proof that it runs to its end and leaves its inputs as they were. -/
def runB (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18)
    (hc1 : ¬ c1 i) (hc2 : c2 i) (hc3 : ¬ c3 i) (hc4 : ¬ c4 i) (hc5 : ¬ k0_cond5 i = 1#1) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_⟩, fun E Q => ?run⟩
  case run =>
    iintro ⟨H2, H3, H4, H5, H6, H7, H8, H9, H10, H11, H12, H13, H14, H15, H16, H17, H18, Hk⟩
    rw [cc0__fused_kernel_eq_skeleton]
    unfold cc0__fused_kernel_skel
    sl_exec_parts (disch := first | sl_exact hc1 | sl_exact hc2 | sl_exact hc3 | sl_exact hc4 | sl_exact hc5)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body at the first point of the second phase, where it builds the coefficient table, the region masks of the first image, and the point's output block: what it leaves in the output block and
    the four scratch buffers, with the proof that it runs to its end and leaves its inputs as they were. -/
def runC (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18)
    (hc1 : ¬ c1 i) (hc2 : ¬ c2 i) (hc3 : c3 i) (hc4 : c4 i) (hc5 : k0_cond5 i = 1#1) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_⟩, fun E Q => ?run⟩
  case run =>
    iintro ⟨H2, H3, H4, H5, H6, H7, H8, H9, H10, H11, H12, H13, H14, H15, H16, H17, H18, Hk⟩
    rw [cc0__fused_kernel_eq_skeleton]
    unfold cc0__fused_kernel_skel
    letI : ClosedOff (k0_off1 i) := ⟨![0, 0, 0, 0], off1_first i hc4⟩
    letI : ClosedOff (k0_off2 i) := ⟨![0, 0, 0], off2_first i hc3⟩
    sl_exec_parts! (disch := first | sl_exact hc1 | sl_exact hc2 | sl_exact hc3 | sl_exact hc4 | sl_exact hc5)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body at the first point of the second image's half of the second phase, where it builds the region masks and the point's output block: what it leaves in the output block and
    the four scratch buffers, with the proof that it runs to its end and leaves its inputs as they were. -/
def runD (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18)
    (hc1 : ¬ c1 i) (hc2 : ¬ c2 i) (hc3 : ¬ c3 i) (hc4 : c4 i) (hc5 : k0_cond5 i = 1#1) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_⟩, fun E Q => ?run⟩
  case run =>
    iintro ⟨H2, H3, H4, H5, H6, H7, H8, H9, H10, H11, H12, H13, H14, H15, H16, H17, H18, Hk⟩
    rw [cc0__fused_kernel_eq_skeleton]
    unfold cc0__fused_kernel_skel
    letI : ClosedOff (k0_off1 i) := ⟨![0, 0, 0, 0], off1_first i hc4⟩
    sl_exec_parts! (disch := first | sl_exact hc1 | sl_exact hc2 | sl_exact hc3 | sl_exact hc4 | sl_exact hc5)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body at the remaining points of the second phase, where it builds the point's output block: what it leaves in the output block and
    the four scratch buffers, with the proof that it runs to its end and leaves its inputs as they were. -/
def runE (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18)
    (hc1 : ¬ c1 i) (hc2 : ¬ c2 i) (hc3 : ¬ c3 i) (hc4 : ¬ c4 i) (hc5 : k0_cond5 i = 1#1) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } := by
  refine ⟨⟨?_, ?_, ?_, ?_, ?_⟩, fun E Q => ?run⟩
  case run =>
    iintro ⟨H2, H3, H4, H5, H6, H7, H8, H9, H10, H11, H12, H13, H14, H15, H16, H17, H18, Hk⟩
    rw [cc0__fused_kernel_eq_skeleton]
    unfold cc0__fused_kernel_skel
    sl_exec_parts! (disch := first | sl_exact hc1 | sl_exact hc2 | sl_exact hc3 | sl_exact hc4 | sl_exact hc5)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end Cert.KernelIdeal.Body

end
-- ==== Proof.KernelIdealLaunch.lean ====
/-
  The launch of the fused kernel's one pipeline: what each grid point leaves (`step`), what the scratch buffers may hold
  before each point (`Reach`), the pipeline's proof data over them, the body obligation, and the run of @main.
-/
module

public import proofs.«01_k».proof.Proof.KernelIdealBody
public import Idealize.ShloMosaic.Lib.Pipeline.ArrRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The guards on the grid -/

theorem cond_A (i : grid0.Coords) : c1 i → c2 i ∧ ¬ c3 i ∧ ¬ c4 i ∧ ¬ k0_cond5 i = 1#1 := by
  revert i
  decide +kernel
theorem cond_B (i : grid0.Coords) : c2 i → ¬ c3 i ∧ ¬ c4 i ∧ ¬ k0_cond5 i = 1#1 := by
  revert i
  decide +kernel
theorem cond_C (i : grid0.Coords) : c3 i → c4 i ∧ k0_cond5 i = 1#1 := by
  revert i
  decide +kernel
theorem cond_E (i : grid0.Coords) : ¬ c2 i → k0_cond5 i = 1#1 := by
  revert i
  decide +kernel

/-! ## One point, whichever way its guards open -/

/-- What the body leaves at grid point `i` in the output block and the four scratch buffers, with the proof that it runs to its
    end and leaves its inputs as they were: the run of the one of the five ways that `i` takes. -/
def stepAt (c : Dev nD) (i : grid0.Coords)
    (M2 : Memref sig .tc .vmem S1x96x56x224 .f32) (h2 : M2.IsWhole)
    (M3 : Memref sig .tc .vmem S1x8x56x56 .f32) (h3 : M3.IsWhole)
    (M4 : Memref sig .tc .vmem S56x256 .f32) (h4 : M4.IsWhole)
    (M5 : Memref sig .tc .vmem S2x512x1 .f32) (h5 : M5.IsWhole)
    (M6 : Memref sig .tc .vmem S512x9 .f32) (h6 : M6.IsWhole)
    (M7 : Memref sig .tc .vmem S64x512 .f32) (h7 : M7.IsWhole)
    (M8 : Memref sig .tc .vmem S64x9 .f32) (h8 : M8.IsWhole)
    (M9 : Memref sig .tc .vmem S1728x64 .f32) (h9 : M9.IsWhole)
    (M10 : Memref sig .tc .vmem S1x96 .f32) (h10 : M10.IsWhole)
    (M11 : Memref sig .tc .vmem S1x96 .f32) (h11 : M11.IsWhole)
    (M12 : Memref sig .tc .vmem S1x96 .f32) (h12 : M12.IsWhole)
    (M13 : Memref sig .tc .vmem S1x96 .f32) (h13 : M13.IsWhole)
    (M14 : Memref sig .tc .vmem S1x96x56x224 .f32) (h14 : M14.IsWhole)
    (M15 : Memref sig .tc .vmem S128x14336 .bf16) (h15 : M15.IsWhole)
    (M16 : Memref sig .tc .vmem S9x4x16x256 .bf16) (h16 : M16.IsWhole)
    (M17 : Memref sig .tc .vmem S2x96x224 .f32) (h17 : M17.IsWhole)
    (M18 : Memref sig .tc .vmem S2x192x128 .bf16) (h18 : M18.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12) (f13 : Bf (F := F) c M13)
    (f14 : Bf (F := F) c M14) (f15 : Bf (F := F) c M15) (f16 : Bf (F := F) c M16) (f17 : Bf (F := F) c M17)
    (f18 : Bf (F := F) c M18) :
    { W : Bf (F := F) c M14 × Bf (F := F) c M15 × Bf (F := F) c M16 × Bf (F := F) c M17 × Bf (F := F) c M18 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
          ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11 M12 h12 M13 h13 M14 h14 M15 h15 M16 h16 M17 h17 M18 h18) Q } :=
  if hc1 : c1 i then runA c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18 hc1 (cond_A i hc1).1 (cond_A i hc1).2.1 (cond_A i hc1).2.2.1 (cond_A i hc1).2.2.2
  else if hc2 : c2 i then runB c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18 hc1 hc2 (cond_B i hc2).1 (cond_B i hc2).2.1 (cond_B i hc2).2.2
  else if hc3 : c3 i then runC c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18 hc1 hc2 hc3 (cond_C i hc3).1 (cond_C i hc3).2
  else if hc4 : c4 i then runD c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18 hc1 hc2 hc3 hc4 (cond_E i hc2)
  else runE c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18 hc1 hc2 hc3 hc4 (cond_E i hc2)

/-- The contents of the four scratch buffers on core `c`: the tap rows, the region masks, the statistics, the coefficients. -/
abbrev Scr (c : Dev nD) : Type :=
  Bf (F := F) c (Memref.whole cc0_scratch0 : Memref sig .tc .vmem S128x14336 .bf16) × Bf (F := F) c (Memref.whole cc0_scratch1 : Memref sig .tc .vmem S9x4x16x256 .bf16)
    × Bf (F := F) c (Memref.whole cc0_scratch2 : Memref sig .tc .vmem S2x96x224 .f32) × Bf (F := F) c (Memref.whole cc0_scratch3 : Memref sig .tc .vmem S2x192x128 .bf16)

variable (m : (ℓ : Loc nD τ sig) → Buf (Elt F) ℓ) (ρ : Dev nD → PrngReg)

/-- `stepAt` at point `t` on what the pipeline calls the body with there: each input buffer at its block, the output buffer at
    `f14`, the scratch at `s`. -/
def stepAt' (c : Dev nD) (t : Fin cfg0.N) (f14 : Bf (F := F) c (st0_12 t)) (s : Scr (F := F) c) :=
  stepAt (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    ((hstage0_0 ((cfg0.slots t 0).cast nbuf0_0)).unread (iblk m c 0 t))
    ((hstage0_1 ((cfg0.slots t 1).cast nbuf0_1)).unread (iblk m c 1 t))
    ((hstage0_2 ((cfg0.slots t 2).cast nbuf0_2)).unread (iblk m c 2 t))
    ((hstage0_3 ((cfg0.slots t 3).cast nbuf0_3)).unread (iblk m c 3 t))
    ((hstage0_4 ((cfg0.slots t 4).cast nbuf0_4)).unread (iblk m c 4 t))
    ((hstage0_5 ((cfg0.slots t 5).cast nbuf0_5)).unread (iblk m c 5 t))
    ((hstage0_6 ((cfg0.slots t 6).cast nbuf0_6)).unread (iblk m c 6 t))
    ((hstage0_7 ((cfg0.slots t 7).cast nbuf0_7)).unread (iblk m c 7 t))
    ((hstage0_8 ((cfg0.slots t 8).cast nbuf0_8)).unread (iblk m c 8 t))
    ((hstage0_9 ((cfg0.slots t 9).cast nbuf0_9)).unread (iblk m c 9 t))
    ((hstage0_10 ((cfg0.slots t 10).cast nbuf0_10)).unread (iblk m c 10 t))
    ((hstage0_11 ((cfg0.slots t 11).cast nbuf0_11)).unread (iblk m c 11 t))
    f14 s.1 s.2.1 s.2.2.1 s.2.2.2

/-- What the body leaves at point `t`: the output buffer's contents, then the scratch's. -/
def step (c : Dev nD) (t : Fin cfg0.N) (f14 : Bf (F := F) c (st0_12 t)) (s : Scr (F := F) c) : Bf (F := F) c (st0_12 t) × Scr (F := F) c :=
  (stepAt' m c t f14 s).1

/-- What the scratch may hold before point `n`: anything at the launch, then what some reachable point left. -/
def Reach (c : Dev nD) : ℕ → Scr (F := F) c → Prop
  | 0 => fun _ => True
  | n + 1 => fun s' => ∃ (h : n < cfg0.N) (f14 : _) (s : Scr (F := F) c), Reach c n s ∧ s' = (step m c ⟨n, h⟩ f14 s).2

/-- The scratch buffers held whole at `s`, with the core's random state. -/
def held (c : Dev nD) (s : Scr (F := F) c) : sProp 𝕄 :=
  iprop(pt c (Memref.whole cc0_scratch0) s.1 ∗ pt c (Memref.whole cc0_scratch1) s.2.1 ∗ pt c (Memref.whole cc0_scratch2) s.2.2.1
    ∗ pt c (Memref.whole cc0_scratch3) s.2.2.2 ∗ (∃ r, prngReg c r))

/-- The pipeline's proof data: each input buffer left as found; the output buffer left at what a step from some reachable scratch
    leaves there; between points the scratch held at something reachable. -/
def rdat (c : Dev nD) : Pipeline.RDat τ (Elt F) Unit ℕ (UR sig nD τ) ℕ cfg0 c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun _ Y X => X = Y
    | 12 => fun t _ X => ∃ (f14 : _) (s : Scr (F := F) c), Reach m c t.val s ∧ X = (st0_12 t).view.read (Elt F) (step m c t f14 s).1
    | ⟨_ + 13, h⟩ => absurd h (Nat.not_lt.2 (Nat.le_add_left _ _))
  Φ t := iprop(∃ s : Scr (F := F) c, ⌜Reach m c t.val s⌝ ∗ held c s)
  q _ := fullShare
  owed _ := 0

/-- A whole buffer owned at a vector is held at the contents that read it. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  rw [h.set_eq_univ]
  iintro ⟨%f, %hf, H⟩
  obtain rfl := h.eq_unread hf
  iexact H

/-- A whole buffer held at contents is owned at what they read. -/
theorem pt_owns (c : Dev nD) {sp : Space} {S : Shape} {e : EltTy} (M : Memref sig .tc sp S e) (h : M.IsWhole) (f : Bf (F := F) c M)
    (X : S.Idx → Elt F e) (hX : X = M.view.read (Elt F) f) :
    pt c M f ⊢ (owns (c : Thread nD τ) M fullShare X : sProp 𝕄) := by
  unfold owns pt
  rw [h.set_eq_univ]
  iintro H
  iexists f; isplitr; · ipureintro; exact hX.symm
  iexact H

theorem finds_0 (c : Dev nD) (t : Fin cfg0.N) (Y) (h : (rdat m c).Finds 0 t Y) : Y = iblk m c 0 t :=
  let ⟨_, hd⟩ := (rdat m c).finds_in_eq_fetched 0 rfl (fun _ _ _ => rfl) (fun _ _ _ h => h) t Y h
  hd.trans (by unfold Pipeline.RDat.fetched Pipeline.RDat.blockOf iblk; rfl)
theorem finds_1 (c : Dev nD) (t : Fin cfg0.N) (Y) (h : (rdat m c).Finds 1 t Y) : Y = iblk m c 1 t :=
  let ⟨_, hd⟩ := (rdat m c).finds_in_eq_fetched 1 rfl (fun _ _ _ => rfl) (fun _ _ _ h => h) t Y h
  hd.trans (by unfold Pipeline.RDat.fetched Pipeline.RDat.blockOf iblk; rfl)
theorem finds_2 (c : Dev nD) (t : Fin cfg0.N) (Y) (h : (rdat m c).Finds 2 t Y) : Y = iblk m c 2 t :=
  let ⟨_, hd⟩ := (rdat m c).finds_in_eq_fetched 2 rfl (fun _ _ _ => rfl) (fun _ _ _ h => h) t Y h
  hd.trans (by unfold Pipeline.RDat.fetched Pipeline.RDat.blockOf iblk; rfl)
theorem finds_3 (c : Dev nD) (t : Fin cfg0.N) (Y) (h : (rdat m c).Finds 3 t Y) : Y = iblk m c 3 t :=
  let ⟨_, hd⟩ := (rdat m c).finds_in_eq_fetched 3 rfl (fun _ _ _ => rfl) (fun _ _ _ h => h) t Y h
  hd.trans (by unfold Pipeline.RDat.fetched Pipeline.RDat.blockOf iblk; rfl)
theorem finds_4 (c : Dev nD) (t : Fin cfg0.N) (Y) (h : (rdat m c).Finds 4 t Y) : Y = iblk m c 4 t :=
  let ⟨_, hd⟩ := (rdat m c).finds_in_eq_fetched 4 rfl (fun _ _ _ => rfl) (fun _ _ _ h => h) t Y h
  hd.trans (by unfold Pipeline.RDat.fetched Pipeline.RDat.blockOf iblk; rfl)
theorem finds_5 (c : Dev nD) (t : Fin cfg0.N) (Y) (h : (rdat m c).Finds 5 t Y) : Y = iblk m c 5 t :=
  let ⟨_, hd⟩ := (rdat m c).finds_in_eq_fetched 5 rfl (fun _ _ _ => rfl) (fun _ _ _ h => h) t Y h
  hd.trans (by unfold Pipeline.RDat.fetched Pipeline.RDat.blockOf iblk; rfl)
theorem finds_6 (c : Dev nD) (t : Fin cfg0.N) (Y) (h : (rdat m c).Finds 6 t Y) : Y = iblk m c 6 t :=
  let ⟨_, hd⟩ := (rdat m c).finds_in_eq_fetched 6 rfl (fun _ _ _ => rfl) (fun _ _ _ h => h) t Y h
  hd.trans (by unfold Pipeline.RDat.fetched Pipeline.RDat.blockOf iblk; rfl)
theorem finds_7 (c : Dev nD) (t : Fin cfg0.N) (Y) (h : (rdat m c).Finds 7 t Y) : Y = iblk m c 7 t :=
  let ⟨_, hd⟩ := (rdat m c).finds_in_eq_fetched 7 rfl (fun _ _ _ => rfl) (fun _ _ _ h => h) t Y h
  hd.trans (by unfold Pipeline.RDat.fetched Pipeline.RDat.blockOf iblk; rfl)
theorem finds_8 (c : Dev nD) (t : Fin cfg0.N) (Y) (h : (rdat m c).Finds 8 t Y) : Y = iblk m c 8 t :=
  let ⟨_, hd⟩ := (rdat m c).finds_in_eq_fetched 8 rfl (fun _ _ _ => rfl) (fun _ _ _ h => h) t Y h
  hd.trans (by unfold Pipeline.RDat.fetched Pipeline.RDat.blockOf iblk; rfl)
theorem finds_9 (c : Dev nD) (t : Fin cfg0.N) (Y) (h : (rdat m c).Finds 9 t Y) : Y = iblk m c 9 t :=
  let ⟨_, hd⟩ := (rdat m c).finds_in_eq_fetched 9 rfl (fun _ _ _ => rfl) (fun _ _ _ h => h) t Y h
  hd.trans (by unfold Pipeline.RDat.fetched Pipeline.RDat.blockOf iblk; rfl)
theorem finds_10 (c : Dev nD) (t : Fin cfg0.N) (Y) (h : (rdat m c).Finds 10 t Y) : Y = iblk m c 10 t :=
  let ⟨_, hd⟩ := (rdat m c).finds_in_eq_fetched 10 rfl (fun _ _ _ => rfl) (fun _ _ _ h => h) t Y h
  hd.trans (by unfold Pipeline.RDat.fetched Pipeline.RDat.blockOf iblk; rfl)
theorem finds_11 (c : Dev nD) (t : Fin cfg0.N) (Y) (h : (rdat m c).Finds 11 t Y) : Y = iblk m c 11 t :=
  let ⟨_, hd⟩ := (rdat m c).finds_in_eq_fetched 11 rfl (fun _ _ _ => rfl) (fun _ _ _ h => h) t Y h
  hd.trans (by unfold Pipeline.RDat.fetched Pipeline.RDat.blockOf iblk; rfl)

/-- The body obligation: at every point, from reachable scratch and the windows' blocks, the body runs to its end and leaves the
    windows as the proof data say and the scratch reachable. -/
theorem body_obligation (c : Dev nD) : (rdat m c).BodyObligation (defs₀ (F := F)) Variants.none () Set.univ := by
  intro t Y hY
  rw [bigSep_W0, bigSep_W0]
  show iprop((∃ s : Scr (F := F) c, ⌜Reach m c t.val s⌝ ∗ held c s) ∗ (rdat m c).owesAt () t.castSucc
      ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12))
    ⊢ wp frame (wpE (defs₀ (F := F)) Variants.none c none) Set.univ (bodyAt0 t) (fun _ =>
      iprop((∃ s : Scr (F := F) c, ⌜Reach m c (t.val + 1) s⌝ ∗ held c s) ∗ (rdat m c).owesAt () t.castSucc
      ∗ (∃ X, ⌜(rdat m c).after 0 t (Y 0) X⌝ ∗ owns (c : Thread nD τ) (win0_0.stage (cfg0.slots t 0)) fullShare X) ∗ (∃ X, ⌜(rdat m c).after 1 t (Y 1) X⌝ ∗ owns (c : Thread nD τ) (win0_1.stage (cfg0.slots t 1)) fullShare X) ∗ (∃ X, ⌜(rdat m c).after 2 t (Y 2) X⌝ ∗ owns (c : Thread nD τ) (win0_2.stage (cfg0.slots t 2)) fullShare X) ∗ (∃ X, ⌜(rdat m c).after 3 t (Y 3) X⌝ ∗ owns (c : Thread nD τ) (win0_3.stage (cfg0.slots t 3)) fullShare X) ∗ (∃ X, ⌜(rdat m c).after 4 t (Y 4) X⌝ ∗ owns (c : Thread nD τ) (win0_4.stage (cfg0.slots t 4)) fullShare X) ∗ (∃ X, ⌜(rdat m c).after 5 t (Y 5) X⌝ ∗ owns (c : Thread nD τ) (win0_5.stage (cfg0.slots t 5)) fullShare X) ∗ (∃ X, ⌜(rdat m c).after 6 t (Y 6) X⌝ ∗ owns (c : Thread nD τ) (win0_6.stage (cfg0.slots t 6)) fullShare X) ∗ (∃ X, ⌜(rdat m c).after 7 t (Y 7) X⌝ ∗ owns (c : Thread nD τ) (win0_7.stage (cfg0.slots t 7)) fullShare X) ∗ (∃ X, ⌜(rdat m c).after 8 t (Y 8) X⌝ ∗ owns (c : Thread nD τ) (win0_8.stage (cfg0.slots t 8)) fullShare X) ∗ (∃ X, ⌜(rdat m c).after 9 t (Y 9) X⌝ ∗ owns (c : Thread nD τ) (win0_9.stage (cfg0.slots t 9)) fullShare X) ∗ (∃ X, ⌜(rdat m c).after 10 t (Y 10) X⌝ ∗ owns (c : Thread nD τ) (win0_10.stage (cfg0.slots t 10)) fullShare X) ∗ (∃ X, ⌜(rdat m c).after 11 t (Y 11) X⌝ ∗ owns (c : Thread nD τ) (win0_11.stage (cfg0.slots t 11)) fullShare X) ∗ (∃ X, ⌜(rdat m c).after 12 t (Y 12) X⌝ ∗ owns (c : Thread nD τ) (win0_12.stage (cfg0.slots t 12)) fullShare X)))
  rw [finds_0 m c t (Y 0) (hY 0), finds_1 m c t (Y 1) (hY 1), finds_2 m c t (Y 2) (hY 2), finds_3 m c t (Y 3) (hY 3), finds_4 m c t (Y 4) (hY 4), finds_5 m c t (Y 5) (hY 5), finds_6 m c t (Y 6) (hY 6), finds_7 m c t (Y 7) (hY 7), finds_8 m c t (Y 8) (hY 8), finds_9 m c t (Y 9) (hY 9), finds_10 m c t (Y 10) (hY 10), finds_11 m c t (Y 11) (hY 11)]
  iintro ⟨⟨%s, %hs, Hs⟩, Ho, H0, H1, H2, H3, H4, H5, H6, H7, H8, H9, H10, H11, H12⟩
  unfold held
  icases Hs with ⟨S0, S1, S2, S3, Hr⟩
  ihave P0 := (owns_pt c (win0_0.stage (cfg0.slots t 0)) (hstage0_0 ((cfg0.slots t 0).cast nbuf0_0)) (iblk m c 0 t)) $$ H0
  ihave P1 := (owns_pt c (win0_1.stage (cfg0.slots t 1)) (hstage0_1 ((cfg0.slots t 1).cast nbuf0_1)) (iblk m c 1 t)) $$ H1
  ihave P2 := (owns_pt c (win0_2.stage (cfg0.slots t 2)) (hstage0_2 ((cfg0.slots t 2).cast nbuf0_2)) (iblk m c 2 t)) $$ H2
  ihave P3 := (owns_pt c (win0_3.stage (cfg0.slots t 3)) (hstage0_3 ((cfg0.slots t 3).cast nbuf0_3)) (iblk m c 3 t)) $$ H3
  ihave P4 := (owns_pt c (win0_4.stage (cfg0.slots t 4)) (hstage0_4 ((cfg0.slots t 4).cast nbuf0_4)) (iblk m c 4 t)) $$ H4
  ihave P5 := (owns_pt c (win0_5.stage (cfg0.slots t 5)) (hstage0_5 ((cfg0.slots t 5).cast nbuf0_5)) (iblk m c 5 t)) $$ H5
  ihave P6 := (owns_pt c (win0_6.stage (cfg0.slots t 6)) (hstage0_6 ((cfg0.slots t 6).cast nbuf0_6)) (iblk m c 6 t)) $$ H6
  ihave P7 := (owns_pt c (win0_7.stage (cfg0.slots t 7)) (hstage0_7 ((cfg0.slots t 7).cast nbuf0_7)) (iblk m c 7 t)) $$ H7
  ihave P8 := (owns_pt c (win0_8.stage (cfg0.slots t 8)) (hstage0_8 ((cfg0.slots t 8).cast nbuf0_8)) (iblk m c 8 t)) $$ H8
  ihave P9 := (owns_pt c (win0_9.stage (cfg0.slots t 9)) (hstage0_9 ((cfg0.slots t 9).cast nbuf0_9)) (iblk m c 9 t)) $$ H9
  ihave P10 := (owns_pt c (win0_10.stage (cfg0.slots t 10)) (hstage0_10 ((cfg0.slots t 10).cast nbuf0_10)) (iblk m c 10 t)) $$ H10
  ihave P11 := (owns_pt c (win0_11.stage (cfg0.slots t 11)) (hstage0_11 ((cfg0.slots t 11).cast nbuf0_11)) (iblk m c 11 t)) $$ H11
  ihave P12 := (owns_pt c (win0_12.stage (cfg0.slots t 12)) (hstage0_12 ((cfg0.slots t 12).cast nbuf0_12)) (Y 12)) $$ H12
  iapply ((stepAt' m c t ((hstage0_12 ((cfg0.slots t 12).cast nbuf0_12)).unread (Y 12)) s).2 Set.univ _)
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [S0]; · iexact S0
  isplitl [S1]; · iexact S1
  isplitl [S2]; · iexact S2
  isplitl [S3]; · iexact S3
  iintro ⟨P0, P1, P2, P3, P4, P5, P6, P7, P8, P9, P10, P11, P12, S0, S1, S2, S3⟩
  isplitl [S0 S1 S2 S3 Hr]
  · iexists (step m c t ((hstage0_12 ((cfg0.slots t 12).cast nbuf0_12)).unread (Y 12)) s).2
    isplitr
    · ipureintro; exact ⟨t.isLt, _, s, hs, rfl⟩
    isplitl [S0]; · iexact S0
    isplitl [S1]; · iexact S1
    isplitl [S2]; · iexact S2
    isplitl [S3]; · iexact S3
    iexact Hr
  isplitl [Ho]; · iexact Ho
  isplitl [P0]
  · iexists (iblk m c 0 t); isplitr; · ipureintro; exact rfl
    iapply (pt_owns c (win0_0.stage (cfg0.slots t 0)) (hstage0_0 ((cfg0.slots t 0).cast nbuf0_0)) _ _ ((hstage0_0 ((cfg0.slots t 0).cast nbuf0_0)).read_unread _).symm) $$ P0
  isplitl [P1]
  · iexists (iblk m c 1 t); isplitr; · ipureintro; exact rfl
    iapply (pt_owns c (win0_1.stage (cfg0.slots t 1)) (hstage0_1 ((cfg0.slots t 1).cast nbuf0_1)) _ _ ((hstage0_1 ((cfg0.slots t 1).cast nbuf0_1)).read_unread _).symm) $$ P1
  isplitl [P2]
  · iexists (iblk m c 2 t); isplitr; · ipureintro; exact rfl
    iapply (pt_owns c (win0_2.stage (cfg0.slots t 2)) (hstage0_2 ((cfg0.slots t 2).cast nbuf0_2)) _ _ ((hstage0_2 ((cfg0.slots t 2).cast nbuf0_2)).read_unread _).symm) $$ P2
  isplitl [P3]
  · iexists (iblk m c 3 t); isplitr; · ipureintro; exact rfl
    iapply (pt_owns c (win0_3.stage (cfg0.slots t 3)) (hstage0_3 ((cfg0.slots t 3).cast nbuf0_3)) _ _ ((hstage0_3 ((cfg0.slots t 3).cast nbuf0_3)).read_unread _).symm) $$ P3
  isplitl [P4]
  · iexists (iblk m c 4 t); isplitr; · ipureintro; exact rfl
    iapply (pt_owns c (win0_4.stage (cfg0.slots t 4)) (hstage0_4 ((cfg0.slots t 4).cast nbuf0_4)) _ _ ((hstage0_4 ((cfg0.slots t 4).cast nbuf0_4)).read_unread _).symm) $$ P4
  isplitl [P5]
  · iexists (iblk m c 5 t); isplitr; · ipureintro; exact rfl
    iapply (pt_owns c (win0_5.stage (cfg0.slots t 5)) (hstage0_5 ((cfg0.slots t 5).cast nbuf0_5)) _ _ ((hstage0_5 ((cfg0.slots t 5).cast nbuf0_5)).read_unread _).symm) $$ P5
  isplitl [P6]
  · iexists (iblk m c 6 t); isplitr; · ipureintro; exact rfl
    iapply (pt_owns c (win0_6.stage (cfg0.slots t 6)) (hstage0_6 ((cfg0.slots t 6).cast nbuf0_6)) _ _ ((hstage0_6 ((cfg0.slots t 6).cast nbuf0_6)).read_unread _).symm) $$ P6
  isplitl [P7]
  · iexists (iblk m c 7 t); isplitr; · ipureintro; exact rfl
    iapply (pt_owns c (win0_7.stage (cfg0.slots t 7)) (hstage0_7 ((cfg0.slots t 7).cast nbuf0_7)) _ _ ((hstage0_7 ((cfg0.slots t 7).cast nbuf0_7)).read_unread _).symm) $$ P7
  isplitl [P8]
  · iexists (iblk m c 8 t); isplitr; · ipureintro; exact rfl
    iapply (pt_owns c (win0_8.stage (cfg0.slots t 8)) (hstage0_8 ((cfg0.slots t 8).cast nbuf0_8)) _ _ ((hstage0_8 ((cfg0.slots t 8).cast nbuf0_8)).read_unread _).symm) $$ P8
  isplitl [P9]
  · iexists (iblk m c 9 t); isplitr; · ipureintro; exact rfl
    iapply (pt_owns c (win0_9.stage (cfg0.slots t 9)) (hstage0_9 ((cfg0.slots t 9).cast nbuf0_9)) _ _ ((hstage0_9 ((cfg0.slots t 9).cast nbuf0_9)).read_unread _).symm) $$ P9
  isplitl [P10]
  · iexists (iblk m c 10 t); isplitr; · ipureintro; exact rfl
    iapply (pt_owns c (win0_10.stage (cfg0.slots t 10)) (hstage0_10 ((cfg0.slots t 10).cast nbuf0_10)) _ _ ((hstage0_10 ((cfg0.slots t 10).cast nbuf0_10)).read_unread _).symm) $$ P10
  isplitl [P11]
  · iexists (iblk m c 11 t); isplitr; · ipureintro; exact rfl
    iapply (pt_owns c (win0_11.stage (cfg0.slots t 11)) (hstage0_11 ((cfg0.slots t 11).cast nbuf0_11)) _ _ ((hstage0_11 ((cfg0.slots t 11).cast nbuf0_11)).read_unread _).symm) $$ P11
  iexists ((st0_12 t).view.read (Elt F) (step m c t ((hstage0_12 ((cfg0.slots t 12).cast nbuf0_12)).unread (Y 12)) s).1)
  isplitr; · ipureintro; exact ⟨_, s, hs, rfl⟩
  iapply (pt_owns c (win0_12.stage (cfg0.slots t 12)) (hstage0_12 ((cfg0.slots t 12).cast nbuf0_12)) _ _ rfl) $$ P12

/-- At the launch the scratch is held at something. -/
theorem phi_in (c : Dev nD) : Pipeline.ΦA spec0 c ⊢ (rdat (F := F) m c).Φ 0 := by
  show _ ⊢ iprop(∃ s : Scr (F := F) c, ⌜Reach m c 0 s⌝ ∗ held c s)
  unfold Pipeline.ΦA held
  rw [scopedRest0_eq]
  iintro ⟨⟨⟨%a, A⟩, ⟨%b, B⟩, ⟨%d, D⟩, %e, E⟩, Hr⟩
  iexists ((a, b, d, e) : Scr (F := F) c)
  isplitr; · ipureintro; exact trivial
  isplitl [A]; · iexact A
  isplitl [B]; · iexact B
  isplitl [D]; · iexact D
  isplitl [E]; · iexact E
  iexact Hr

/-- After the last point the scratch's contents are forgotten. -/
theorem phi_out (c : Dev nD) : (rdat (F := F) m c).Φ (Fin.last cfg0.N) ⊢ Pipeline.ΦA spec0 c := by
  show iprop(∃ s : Scr (F := F) c, ⌜Reach m c cfg0.N s⌝ ∗ held c s) ⊢ _
  unfold Pipeline.ΦA held
  rw [scopedRest0_eq]
  iintro ⟨%s, -, A, B, D, E, Hr⟩
  isplitr [Hr]
  · isplitl [A]; · iexists s.1; iexact A
    isplitl [B]; · iexists s.2.1; iexact B
    isplitl [D]; · iexists s.2.2.1; iexact D
    iexists s.2.2.2; iexact E
  iexact Hr

/-- Each window's array is held whole. -/
theorem share_full (c : Dev nD) (w : Fin 13) : (rdat (F := F) m c).share w = fullShare := by
  unfold Pipeline.RDat.share; split <;> rfl

/-- The run of @main: it ends on every execution, with every counter at zero, each window's array at something that the pipeline may
    leave there and every other buffer as the host operations left it. -/
theorem run_main : θ_run (defs (F := F)) (onTc (τ := τ) (main (F := F))) (s₀ m ρ)
    (fun r => Pipeline.RDat.FramePost cfg0 (rdat m) (V m) r ∧ r.2.sem = fun _ => 0) :=
  Pipeline.RDat.θ_run_frame_track cfgs 0 launch0 (defs₀ (F := F)) Variants.none (rdat m) m ρ main (body_obligation m) (share_full m)
    (fun _ _ => rfl) (V m) (hmain m Variants.none) (fun _ _ => rfl) (phi_in m) (phi_out m) _ (fun _ h => h)

/-- Every argument array ends as it was launched. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨(h.arr_in c 0 rfl).trans (V_main_arg0 m c), (h.arr_in c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

end Cert.KernelIdeal.Body

end
-- ==== Proof.Frames.lean ====
/- The frames: each program terminates without fault, leaves its arguments as launched, and ends with every counter
   at zero. The kernel's two are the pipeline's run (KernelLaunch, KernelIdealLaunch); the reference is host
   operations only. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import Idealize.ShloMosaic.Lib.Claim

@[expose] public section

noncomputable section

namespace Cert.Proof

open Idealize.ShloMosaic Idealize.SL.Sem

/-- The kernel's frame, at the machine's numbers. -/
theorem frame_kernel : Cert.quiescent_Kernel := fun m g _ =>
  θ_run_mono (Cert.Kernel.Body.run_main m g) fun _ h => ⟨Cert.Kernel.Body.args_kept m h.1, h.2⟩

/-- The ideal kernel's frame. -/
theorem frame_ideal : Cert.quiescent_KernelIdeal := fun m g _ =>
  θ_run_mono (Cert.KernelIdeal.Body.run_main m g) fun _ h => ⟨Cert.KernelIdeal.Body.args_kept m h.1, h.2⟩

/-- The reference's frame: its run, read at the arguments; it declares no counter. -/
theorem frame_reference : Cert.quiescent_ReferenceIdeal := fun m g _ =>
  θ_run_mono (Cert.ReferenceIdeal.Value.run m g) fun r h =>
    ⟨fun c => (h c).2, sem_eq_zero_of_no_sems (by decide) r.2⟩

end Cert.Proof

end
-- ==== Proof.Taps.lean ====
/- The tap matrix that a point of the second phase forms from the one-hot regions, and the output block that it leaves. -/
module

public import proofs.«01_k».proof.Proof.KernelIdealBody
public import Idealize.ShloMosaic.Lib.Pipeline.Value
public import Idealize.ShloMosaic.Lib.Pipeline.ReadBack
public import Idealize.ShloMosaic.Lib.ValueIdxCore
public import Idealize.ShloMosaic.Lib.VecWindow
public import Idealize.ShloMosaic.Lib.Pointwise

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

/-- The rows below `9 k` from `G`, the rest from `f`. -/
def mix (k : ℕ) (G f : S128x14336.Idx → EReal) : S128x14336.Idx → EReal := fun j => if (j 0).val < 9 * k then G j else f j

/-- The flat position, in the row tile's sixteen-row strip, of tap `k` at position `n` of the tile. -/
def tapPos (k n : ℕ) : ℕ := 767 + 256 * (k / 3) + k % 3 + n

/-- The tap matrix that a point of the second phase leaves: rows `9 k + r`, region `r` under tap `k`; the other rows stay. -/
def fAfter (oc : S9x4x16x256.Idx → EReal) (t : Fin 4) (f : S128x14336.Idx → EReal) : S128x14336.Idx → EReal := fun j =>
  if h : (j 0).val < 81 then
    oc (ix4 (⟨(j 0).val % 9, Nat.mod_lt _ (by decide)⟩ : Fin 9) t (⟨tapPos ((j 0).val / 9) (j 1).val / 1024, by
        have := (j 1).isLt; have : S128x14336.size 1 = 14336 := rfl; unfold tapPos; omega⟩ : Fin 16)
      (⟨tapPos ((j 0).val / 9) (j 1).val % 256, Nat.mod_lt _ (by decide)⟩ : Fin 256))
  else f j

/-- One partial store of nine rows: the ten rows that it loads and writes back carry the mixture one tap further. -/
theorem read_mix {sig : RefSig} {κ : Kind} {sp : Space} (v : View sig κ sp S128x14336 .bf16) (X : v.ty.Contents (Elt Ideal))
    (L : List (View.Piece (Elt Ideal) S128x14336 .bf16)) (k r o : ℕ) (G f : S128x14336.Idx → EReal)
    (h0 : v.read (Elt Ideal) (v.writes (Elt Ideal) X L) = mix k G f) (hro : r + o = 9 * k) (ho : o ≤ 1) (hr : r + 10 ≤ 128)
    (inb : ∀ a, (![r, 0] : Fin 2 → ℕ) a + S10x14336.size a ≤ S128x14336.size a)
    (old : S10x14336.Idx → EReal) (pay : S9x14336.Idx → EReal) (sl : S10x14336.Slices ![o, 0] S9x14336)
    (hold : ∀ (a : Fin 10) (n : Fin 14336), old (ix2 a n) = mix k G f (ix2 (⟨r + a.val, by omega⟩ : Fin 128) n))
    (hpay : ∀ (a : Fin 9) (n : Fin 14336), pay (ix2 a n) = G (ix2 (⟨9 * k + a.val, by omega⟩ : Fin 128) n)) :
    v.read (Elt Ideal) (v.writes (Elt Ideal) X
      ((⟨Rect.unit (s := S128x14336) ![r, 0] S10x14336.size inb, updateSlice old pay ![o, 0] sl⟩ : View.Piece (Elt Ideal) S128x14336 .bf16) :: L))
      = mix (k + 1) G f := by
  rw [View.read_writes_cons_put v X inb _ L rfl, h0]
  funext j
  have hj0 : (j 0).val < 128 := (j 0).isLt
  have hj1 : (j 1).val < 14336 := (j 1).isLt
  unfold VecWindow.put
  by_cases h : ∀ a : Fin 2, (![r, 0] : Fin 2 → ℕ) a ≤ (j a).val ∧ (j a).val < (![r, 0] : Fin 2 → ℕ) a + S10x14336.size a
  · rw [dif_pos h]
    have hr0 : r ≤ (j 0).val ∧ (j 0).val < r + 10 := h 0
    have e1 : (Rect.unitLocal (s := S128x14336) (off := ![r, 0]) (size := S10x14336.size) j h)
        = (ix2 (⟨(j 0).val - r, by omega⟩ : Fin 10) (⟨(j 1).val, hj1⟩ : Fin 14336) : S10x14336.Idx) := by
      funext a; match a with | ⟨0, _⟩ => rfl | ⟨1, _⟩ => rfl
    rw [e1]
    unfold updateSlice
    by_cases hin : ∀ a : Fin 2, (![o, 0] : Fin 2 → ℕ) a ≤ ((ix2 (⟨(j 0).val - r, by omega⟩ : Fin 10) (⟨(j 1).val, hj1⟩ : Fin 14336) : S10x14336.Idx) a).val
        ∧ ((ix2 (⟨(j 0).val - r, by omega⟩ : Fin 10) (⟨(j 1).val, hj1⟩ : Fin 14336) : S10x14336.Idx) a).val < (![o, 0] : Fin 2 → ℕ) a + S9x14336.size a
    · refine (dif_pos hin).trans ?_
      have hi0 : o ≤ (j 0).val - r ∧ (j 0).val - r < o + 9 := hin 0
      refine (congrArg pay (a₂ := ix2 (⟨(j 0).val - r - o, by omega⟩ : Fin 9) (⟨(j 1).val, hj1⟩ : Fin 14336)) ?_).trans ?_
      · funext a; match a with | ⟨0, _⟩ => rfl | ⟨1, _⟩ => rfl
      · rw [hpay]
        unfold mix
        rw [if_pos (by omega)]
        refine congrArg G (funext fun a => Fin.ext ?_)
        match a with
        | ⟨0, _⟩ => show 9 * k + ((j 0).val - r - o) = (j 0).val; omega
        | ⟨1, _⟩ => rfl
    · refine (dif_neg hin).trans ((hold _ _).trans ?_)
      have hi0 : ¬ (o ≤ (j 0).val - r ∧ (j 0).val - r < o + 9) := fun hh => hin fun a => by
        match a with
        | ⟨0, _⟩ => exact hh
        | ⟨1, _⟩ => exact ⟨Nat.zero_le _, by show (j 1).val < 0 + 14336; omega⟩
      have e2 : (ix2 (⟨r + ((j 0).val - r), by omega⟩ : Fin 128) (⟨(j 1).val, hj1⟩ : Fin 14336) : S128x14336.Idx) = j := by
        funext a; match a with
        | ⟨0, _⟩ => exact Fin.ext (by show r + ((j 0).val - r) = (j 0).val; omega)
        | ⟨1, _⟩ => rfl
      rw [e2]
      unfold mix
      by_cases hk : (j 0).val < 9 * k
      · rw [if_pos hk, if_pos (by omega)]
      · rw [if_neg hk, if_neg (by omega)]
  · rw [dif_neg h]
    have hr0 : ¬ (r ≤ (j 0).val ∧ (j 0).val < r + 10) := fun hh => h fun a => by
      match a with
      | ⟨0, _⟩ => exact hh
      | ⟨1, _⟩ => exact ⟨Nat.zero_le _, by show (j 1).val < 0 + 14336; omega⟩
    unfold mix
    by_cases hk : (j 0).val < 9 * k
    · rw [if_pos hk, if_pos (by omega)]
    · rw [if_neg hk, if_neg (by omega)]
/-- A load of ten rows from row `r`, at an index. -/
theorem load_rows {sig : RefSig} {κ : Kind} {sp : Space} (v : View sig κ sp S128x14336 .bf16) (X : v.ty.Contents (Elt Ideal)) (r : ℕ) (hr : r + 10 ≤ 128)
    (inb : ∀ a, (![r, 0] : Fin 2 → ℕ) a + S10x14336.size a ≤ S128x14336.size a) (a : Fin 10) (n : Fin 14336) :
    View.readAt (Elt Ideal) v (Rect.unit (s := S128x14336) ![r, 0] S10x14336.size inb).toLoadRect X (ix2 a n)
      = v.read (Elt Ideal) X (ix2 (⟨r + a.val, by omega⟩ : Fin 128) n) := by
  refine congrArg (v.read (Elt Ideal) X) (funext fun b => Fin.ext ?_)
  match b with
  | ⟨0, _⟩ => show r + 1 * a.val = r + a.val; omega
  | ⟨1, _⟩ => show 0 + 1 * n.val = n.val; omega

/-- The row tile's number at a grid point. -/
abbrev tile (i : grid0.Coords) : Fin 4 := ⟨(i 1).val % 4, Nat.mod_lt _ (by decide)⟩

/-- The load of one row tile of every region, at an index. -/
theorem load_tile {sig : RefSig} {κ : Kind} {sp : Space} (v : View sig κ sp S9x4x16x256 .bf16) (X : v.ty.Contents (Elt Ideal)) (i : grid0.Coords)
    (inb : ∀ a, k0_off1 i a + S9x1x16x256.size a ≤ S9x4x16x256.size a) (a : Fin 9) (u : Fin 16) (x : Fin 256) :
    View.readAt (Elt Ideal) v (Rect.unit (s := S9x4x16x256) (k0_off1 i) S9x1x16x256.size inb).toLoadRect X (ix4 a 0 u x)
      = v.read (Elt Ideal) X (ix4 a (tile i) u x) := by
  refine congrArg (v.read (Elt Ideal) X) (funext fun b => Fin.ext ?_)
  have e := off1_eq i
  match b with
  | ⟨0, _⟩ => show k0_off1 i 0 + 1 * a.val = a.val; rw [e]; show 0 + 1 * a.val = a.val; omega
  | ⟨1, _⟩ => show k0_off1 i 1 + 1 * 0 = (i 1).val % 4; rw [e]; show (i 1).val % 4 + 1 * 0 = _; omega
  | ⟨2, _⟩ => show k0_off1 i 2 + 1 * u.val = u.val; rw [e]; show 0 + 1 * u.val = u.val; omega
  | ⟨3, _⟩ => show k0_off1 i 3 + 1 * x.val = x.val; rw [e]; show 0 + 1 * x.val = x.val; omega

/-- The tap matrix at a row below 81. -/
theorem fAfter_row (oc : S9x4x16x256.Idx → EReal) (t : Fin 4) (f : S128x14336.Idx → EReal) (k : ℕ) (hk : k < 9) (a : Fin 9) (n : Fin 14336) :
    fAfter oc t f (ix2 (⟨9 * k + a.val, by omega⟩ : Fin 128) n)
      = oc (ix4 a t (⟨tapPos k n.val / 1024, by unfold tapPos; omega⟩ : Fin 16) (⟨tapPos k n.val % 256, Nat.mod_lt _ (by decide)⟩ : Fin 256)) := by
  have h : 9 * k + a.val < 81 := by omega
  refine (dif_pos h).trans (congrArg oc (funext fun b => Fin.ext ?_))
  have e : (9 * k + a.val) / 9 = k := by omega
  match b with
  | ⟨0, _⟩ => show (9 * k + a.val) % 9 = a.val; omega
  | ⟨1, _⟩ => rfl
  | ⟨2, _⟩ => show tapPos ((9 * k + a.val) / 9) n.val / 1024 = tapPos k n.val / 1024; rw [e]
  | ⟨3, _⟩ => show tapPos ((9 * k + a.val) / 9) n.val % 256 = tapPos k n.val % 256; rw [e]

/-- The row tile laid out flat, each row four times, at an index. -/
theorem flat_apply (v : Vec Ideal S9x1x16x256 .bf16) (k : Fin 9) (n : Fin 16384) :
    k0_pay154 v (ix2 k n) = v (ix4 k 0 ⟨n.val / 1024, by omega⟩ ⟨n.val % 256, by omega⟩) := by
  unfold k0_pay154
  pointwise

/-! The nine payloads: tap `k` is the flat strip from its own offset. -/

theorem row0 (V : Vec Ideal S9x1x16x256 .bf16) (a : Fin 9) (n : Fin 14336) :
    k0_pay155 V (ix2 a n) = k0_pay154 V (ix2 a (⟨767 + n.val, by omega⟩ : Fin 16384)) := by
  unfold k0_pay155
  pointwise

theorem row1 (V : Vec Ideal S9x1x16x256 .bf16) (a : Fin 9) (n : Fin 14336) :
    k0_pay156 V (ix2 a n) = k0_pay154 V (ix2 a (⟨768 + n.val, by omega⟩ : Fin 16384)) := by
  unfold k0_pay156
  pointwise

theorem row2 (V : Vec Ideal S9x1x16x256 .bf16) (a : Fin 9) (n : Fin 14336) :
    k0_pay157 V (ix2 a n) = k0_pay154 V (ix2 a (⟨769 + n.val, by omega⟩ : Fin 16384)) := by
  unfold k0_pay157
  pointwise

theorem row3 (V : Vec Ideal S9x1x16x256 .bf16) (a : Fin 9) (n : Fin 14336) :
    k0_pay158 V (ix2 a n) = k0_pay154 V (ix2 a (⟨1023 + n.val, by omega⟩ : Fin 16384)) := by
  unfold k0_pay158
  pointwise

theorem row4 (V : Vec Ideal S9x1x16x256 .bf16) (a : Fin 9) (n : Fin 14336) :
    k0_pay159 V (ix2 a n) = k0_pay154 V (ix2 a (⟨1024 + n.val, by omega⟩ : Fin 16384)) := by
  unfold k0_pay159
  pointwise

theorem row5 (V : Vec Ideal S9x1x16x256 .bf16) (a : Fin 9) (n : Fin 14336) :
    k0_pay160 V (ix2 a n) = k0_pay154 V (ix2 a (⟨1025 + n.val, by omega⟩ : Fin 16384)) := by
  unfold k0_pay160
  pointwise

theorem row6 (V : Vec Ideal S9x1x16x256 .bf16) (a : Fin 9) (n : Fin 14336) :
    k0_pay161 V (ix2 a n) = k0_pay154 V (ix2 a (⟨1279 + n.val, by omega⟩ : Fin 16384)) := by
  unfold k0_pay161
  pointwise

theorem row7 (V : Vec Ideal S9x1x16x256 .bf16) (a : Fin 9) (n : Fin 14336) :
    k0_pay9 (k0_pay162 V) (ix2 a n) = k0_pay154 V (ix2 a (⟨1280 + n.val, by omega⟩ : Fin 16384)) := by
  unfold k0_pay9 k0_pay162
  pointwise

theorem row8 (V : Vec Ideal S9x1x16x256 .bf16) (a : Fin 9) (n : Fin 14336) :
    k0_pay10 (k0_pay154 V) (ix2 a n) = k0_pay154 V (ix2 a (⟨1281 + n.val, by omega⟩ : Fin 16384)) := by
  unfold k0_pay10
  pointwise

variable (c : Dev nD) (i : grid0.Coords) (M15 : Memref sig .tc .vmem S128x14336 .bf16) (M16 : Memref sig .tc .vmem S9x4x16x256 .bf16)
  (f15 : Bf (F := Ideal) c M15) (f16 : Bf (F := Ideal) c M16)

/-- The tap matrix after the second phase's nine partial stores. -/
theorem taps_read (hc5 : k0_cond5 i = 1#1) :
    M15.view.read (Elt Ideal) (M15.view.writes (Elt Ideal) f15 (runE.sl.H15_9 (F := Ideal) c i M15 M16 f15 f16 hc5))
      = fAfter (M16.view.read (Elt Ideal) f16) (tile i) (M15.view.read (Elt Ideal) f15) := by
  generalize hf : M15.view.read (Elt Ideal) f15 = f
  generalize hG : fAfter (M16.view.read (Elt Ideal) f16) (tile i) f = G
  have pay (v : Vec Ideal S9x1x16x256 .bf16) (hv : ∀ a u x, v (ix4 a 0 u x) = M16.view.read (Elt Ideal) f16 (ix4 a (tile i) u x))
      (k : ℕ) (hk : k < 9) (a : Fin 9) (n : Fin 14336) (q : ℕ) (hq : q = tapPos k n.val) (hlt : q < 16384) :
      k0_pay154 v (ix2 a (⟨q, hlt⟩ : Fin 16384)) = G (ix2 (⟨9 * k + a.val, by omega⟩ : Fin 128) n) := by
    subst hq
    rw [flat_apply, hv, ← hG, fAfter_row _ _ _ k hk]
  have even (k r : ℕ) (hk : 9 * k = r) (hr : r + 10 ≤ 128) (inb) (a : Fin 10) (n : Fin 14336) :
      View.readAt (Elt Ideal) M15.view (Rect.unit (s := S128x14336) ![r, 0] S10x14336.size inb).toLoadRect f15 (ix2 a n)
        = mix k G f (ix2 (⟨r + a.val, by omega⟩ : Fin 128) n) := by
    rw [load_rows _ _ r hr, hf]
    exact (if_neg (by show ¬ r + a.val < 9 * k; omega)).symm
  set V : Vec Ideal S9x1x16x256 .bf16 := View.readAt (Elt Ideal) M16.view (Rect.unit (s := S9x4x16x256) (k0_off1 i) S9x1x16x256.size (k0_off1_inb i hc5)).toLoadRect f16 with hV
  have hv : ∀ a u x, V (ix4 a 0 u x)
      = M16.view.read (Elt Ideal) f16 (ix4 a (tile i) u x) := fun a u x => load_tile _ _ i _ a u x
  have m0 : M15.view.read (Elt Ideal) (M15.view.writes (Elt Ideal) f15 []) = mix 0 G f := by
    refine hf.trans (funext fun j => ?_)
    exact (if_neg (by omega)).symm
  have m1 : M15.view.read (Elt Ideal) (M15.view.writes (Elt Ideal) f15 (runE.sl.H15_1 (F := Ideal) c i M15 M16 f15 f16 hc5)) = mix 1 G f := by
    unfold runE.sl.H15_1
    exact read_mix M15.view f15 [] 0 0 0 G f m0 rfl (by omega) (by omega) _ _ _ _ (even 0 0 rfl (by omega) _) fun a n => (row0 V a n).trans (pay V hv 0 (by omega) a n _ (by unfold tapPos; omega) _)
  have m3 : M15.view.read (Elt Ideal) (M15.view.writes (Elt Ideal) f15 (runE.sl.H15_3 (F := Ideal) c i M15 M16 f15 f16 hc5)) = mix 3 G f := by
    unfold runE.sl.H15_3
    refine read_mix M15.view f15 _ 2 18 0 G f (read_mix M15.view f15 _ 1 8 1 G f m1 rfl (by omega) (by omega) _ _ _ _ ?_ ?_) rfl (by omega) (by omega) _ _ _ _ ?_ ?_
    · intro a n; rw [load_rows _ _ 8 (by omega), m1]
    · exact fun a n => (row1 V a n).trans (pay V hv 1 (by omega) a n _ (by unfold tapPos; omega) _)
    · unfold runE.sl.old; exact even 2 18 rfl (by omega) _
    · exact fun a n => (row2 V a n).trans (pay V hv 2 (by omega) a n _ (by unfold tapPos; omega) _)
  have m5 : M15.view.read (Elt Ideal) (M15.view.writes (Elt Ideal) f15 (runE.sl.H15_5 (F := Ideal) c i M15 M16 f15 f16 hc5)) = mix 5 G f := by
    unfold runE.sl.H15_5
    refine read_mix M15.view f15 _ 4 36 0 G f (read_mix M15.view f15 _ 3 26 1 G f m3 rfl (by omega) (by omega) _ _ _ _ ?_ ?_) rfl (by omega) (by omega) _ _ _ _ ?_ ?_
    · intro a n; rw [load_rows _ _ 26 (by omega), m3]
    · exact fun a n => (row3 V a n).trans (pay V hv 3 (by omega) a n _ (by unfold tapPos; omega) _)
    · unfold runE.sl.old_1; exact even 4 36 rfl (by omega) _
    · exact fun a n => (row4 V a n).trans (pay V hv 4 (by omega) a n _ (by unfold tapPos; omega) _)
  have m7 : M15.view.read (Elt Ideal) (M15.view.writes (Elt Ideal) f15 (runE.sl.H15_7 (F := Ideal) c i M15 M16 f15 f16 hc5)) = mix 7 G f := by
    unfold runE.sl.H15_7
    refine read_mix M15.view f15 _ 6 54 0 G f (read_mix M15.view f15 _ 5 44 1 G f m5 rfl (by omega) (by omega) _ _ _ _ ?_ ?_) rfl (by omega) (by omega) _ _ _ _ ?_ ?_
    · intro a n; rw [load_rows _ _ 44 (by omega), m5]
    · exact fun a n => (row5 V a n).trans (pay V hv 5 (by omega) a n _ (by unfold tapPos; omega) _)
    · unfold runE.sl.old_2; exact even 6 54 rfl (by omega) _
    · exact fun a n => (row6 V a n).trans (pay V hv 6 (by omega) a n _ (by unfold tapPos; omega) _)
  have m9 : M15.view.read (Elt Ideal) (M15.view.writes (Elt Ideal) f15 (runE.sl.H15_9 (F := Ideal) c i M15 M16 f15 f16 hc5)) = mix 9 G f := by
    unfold runE.sl.H15_9
    refine read_mix M15.view f15 _ 8 72 0 G f (read_mix M15.view f15 _ 7 62 1 G f m7 rfl (by omega) (by omega) _ _ _ _ ?_ ?_) rfl (by omega) (by omega) _ _ _ _ ?_ ?_
    · intro a n; rw [load_rows _ _ 62 (by omega), m7]
    · exact fun a n => (row7 V a n).trans (pay V hv 7 (by omega) a n _ (by unfold tapPos; omega) _)
    · unfold runE.sl.old_3; exact even 8 72 rfl (by omega) _
    · exact fun a n => (row8 V a n).trans (pay V hv 8 (by omega) a n _ (by unfold tapPos; omega) _)
  rw [m9, ← hG]
  funext j
  unfold mix fAfter
  by_cases h : (j 0).val < 81
  · rw [if_pos (by omega)]
  · rw [if_neg (by omega), dif_neg h]

/-- The image's number at a grid point. -/
abbrev image (i : grid0.Coords) : Fin 2 := ⟨(i 1).val / 4, by have : (i 1).val < 8 := (i 1).isLt; omega⟩

/-- The load of one image's table, at an index. -/
theorem load_image {sig : RefSig} {κ : Kind} {sp : Space} (v : View sig κ sp S2x192x128 .bf16) (X : v.ty.Contents (Elt Ideal)) (i : grid0.Coords)
    (inb : ∀ a, k0_off2 i a + S1x192x128.size a ≤ S2x192x128.size a) (r : Fin 192) (q : Fin 128) :
    View.readAt (Elt Ideal) v (Rect.unit (s := S2x192x128) (k0_off2 i) S1x192x128.size inb).toLoadRect X (ix3 0 r q)
      = v.read (Elt Ideal) X (ix3 (image i) r q) := by
  refine congrArg (v.read (Elt Ideal) X) (funext fun b => Fin.ext ?_)
  have e := off2_eq i
  match b with
  | ⟨0, _⟩ => show k0_off2 i 0 + 1 * 0 = (i 1).val / 4; rw [e]; show (i 1).val / 4 + 1 * 0 = _; omega
  | ⟨1, _⟩ => show k0_off2 i 1 + 1 * r.val = r.val; rw [e]; show 0 + 1 * r.val = r.val; omega
  | ⟨2, _⟩ => show k0_off2 i 2 + 1 * q.val = q.val; rw [e]; show 0 + 1 * q.val = q.val; omega

/-- The output block from the image's table `g`, the tap matrix `f` and the input block `x`: `x` times the first 96 rows of
    `g f` plus the last 96. -/
def outBlock (g : S2x192x128.Idx → EReal) (b : Fin 2) (f : S128x14336.Idx → EReal) (x : S1x96x56x224.Idx → EReal) (a : Fin 96) (y : Fin 56) (z : Fin 224) : EReal :=
  x (ix4 0 a y z) * (∑ q : Fin 128, g (ix3 b (⟨a.val, by omega⟩ : Fin 192) q) * f (ix2 q (⟨y.val * 256 + z.val, by omega⟩ : Fin 14336)))
    + ∑ q : Fin 128, g (ix3 b (⟨96 + a.val, by omega⟩ : Fin 192) q) * f (ix2 q (⟨y.val * 256 + z.val, by omega⟩ : Fin 14336))

/-- The last payload at an index. -/
theorem pay_out (g : Vec Ideal S1x192x128 .bf16) (f : Vec Ideal S128x14336 .bf16) (x : Vec Ideal S1x96x56x224 .f32) (a : Fin 96) (y : Fin 56) (z : Fin 224) :
    k0_pay11 g f x (ix4 0 a y z)
      = x (ix4 0 a y z) * (∑ q : Fin 128, g (ix3 0 (⟨a.val, by omega⟩ : Fin 192) q) * f (ix2 q (⟨y.val * 256 + z.val, by omega⟩ : Fin 14336)))
        + ∑ q : Fin 128, g (ix3 0 (⟨96 + a.val, by omega⟩ : Fin 192) q) * f (ix2 q (⟨y.val * 256 + z.val, by omega⟩ : Fin 14336)) := by
  unfold k0_pay11
  pointwise

/-- What the output's buffer reads after a point of the second phase. -/
theorem out_read (M2 : Memref sig .tc .vmem S1x96x56x224 .f32) (M14 : Memref sig .tc .vmem S1x96x56x224 .f32) (M18 : Memref sig .tc .vmem S2x192x128 .bf16)
    (f2 : Bf (F := Ideal) c M2) (f14 : Bf (F := Ideal) c M14) (f18 : Bf (F := Ideal) c M18) (hc5 : k0_cond5 i = 1#1) (a : Fin 96) (y : Fin 56) (z : Fin 224) :
    M14.view.read (Elt Ideal) (M14.view.writes (Elt Ideal) f14 (runE.sl.H14_1 (F := Ideal) c i M2 M15 M16 M18 f2 f15 f16 f18 hc5)) (ix4 0 a y z)
      = outBlock (M18.view.read (Elt Ideal) f18) (image i) (fAfter (M16.view.read (Elt Ideal) f16) (tile i) (M15.view.read (Elt Ideal) f15))
          (M2.view.read (Elt Ideal) f2) a y z := by
  unfold runE.sl.H14_1
  rw [View.read_writes_full, pay_out, View.readAt_full, View.readAt_full, taps_read]
  unfold outBlock
  exact congrArg₂ (· + ·) (congrArg (_ * ·) (Finset.sum_congr rfl fun q _ => congrArg (· * _) (load_image _ _ _ _ _ _)))
    (Finset.sum_congr rfl fun q _ => congrArg (· * _) (load_image _ _ _ _ _ _))

end Cert.KernelIdeal.Body

end
-- ==== Proof.OneHot.lean ====
/- The one-hot region table that the first point of an image in the second phase builds. -/
module

public import proofs.«01_k».proof.Proof.KernelIdealBody
public import Idealize.ShloMosaic.Lib.Pipeline.Value
public import Idealize.ShloMosaic.Lib.Pipeline.ReadBack
public import Idealize.ShloMosaic.Lib.ValueIdxCore
public import Idealize.ShloMosaic.Lib.VecWindow
public import Idealize.ShloMosaic.Lib.Pointwise
public import Idealize.ShloMosaic.Lib.WritesUnit

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

/-- One at a coarse pixel whose channel `k` of the guide is not zero, zero at the others. -/
def maskE (x : S1x8x56x56.Idx → EReal) (k : Fin 8) (a b : Fin 56) : EReal := if x (ix4 0 k a b) ≠ 0 then 1 else 0

/-- One at a coarse pixel that none of the highest `n` channels claims, zero at the others. -/
def freeE (x : S1x8x56x56.Idx → EReal) : ℕ → Fin 56 → Fin 56 → EReal
  | 0, _, _ => 1
  | n + 1, a, b => freeE x n a b * (1 - maskE x (⟨7 - n, by omega⟩ : Fin 8) a b)

/-- The indicator of region `k`: channel `k` claims the pixel and no higher one does; region 8 is that no channel does. -/
def selE (x : S1x8x56x56.Idx → EReal) (k : Fin 9) (a b : Fin 56) : EReal :=
  if h : k.val < 8 then maskE x ⟨k.val, h⟩ a b * freeE x (7 - k.val) a b else freeE x 8 a b

/-- Row `r` of the coarse indicator of region `k` between two zero rows, its columns spread by `u`. -/
def hot (x : S1x8x56x56.Idx → EReal) (u : S56x256.Idx → EReal) (k : Fin 9) (r : ℕ) (X : Fin 256) : EReal :=
  if h : 1 ≤ r ∧ r ≤ 56 then ∑ q : Fin 56, selE x k (⟨r - 1, by omega⟩ : Fin 56) q * u (ix2 q X) else 0

/-- The one-hot regions as the kernel keeps them: per region and row tile, sixteen rows that overlap the neighbour tiles. -/
def ocG (x : S1x8x56x56.Idx → EReal) (u : S56x256.Idx → EReal) : S9x4x16x256.Idx → EReal := fun j =>
  hot x u (j 0) (14 * (j 1).val + (j 2).val) (j 3)

/-- The load of one channel of the guide. -/
def ld3 (c : Dev nD) (M3 : Memref sig .tc .vmem S1x8x56x56 .f32) (f3 : Bf (F := Ideal) c M3) (k : ℕ) (hk : k < 8) : Vec Ideal S1x1x56x56 .f32 :=
  View.readAt (Elt Ideal) M3.view (Rect.unit (s := S1x8x56x56) ![0, k, 0, 0] S1x1x56x56.size (by
    intro a
    match a with
    | ⟨0, _⟩ => show 0 + 1 ≤ 1; omega
    | ⟨1, _⟩ => show k + 1 ≤ 8; omega
    | ⟨2, _⟩ => show 0 + 56 ≤ 56; omega
    | ⟨3, _⟩ => show 0 + 56 ≤ 56; omega)).toLoadRect f3

/-- The pixels that none of the highest `n` channels claims, as the kernel computes them. -/
def naV (c : Dev nD) (M3 : Memref sig .tc .vmem S1x8x56x56 .f32) (f3 : Bf (F := Ideal) c M3) : ℕ → FVec Ideal S56x56 .f32
  | 0 => k0_pay94
  | n + 1 => k0_pay102 (naV c M3 f3 n) (k0_pay95 (ld3 c M3 f3 (7 - n) (by omega)))

/-- A region's indicator, as the kernel computes it. -/
def selV (c : Dev nD) (M3 : Memref sig .tc .vmem S1x8x56x56 .f32) (f3 : Bf (F := Ideal) c M3) (k : ℕ) (hk : k < 8) : FVec Ideal S56x56 .f32 :=
  mulf (k0_pay95 (ld3 c M3 f3 k hk)) (naV c M3 f3 (7 - k))

theorem ld3_apply (c : Dev nD) (M3 : Memref sig .tc .vmem S1x8x56x56 .f32) (f3 : Bf (F := Ideal) c M3) (k : ℕ) (hk : k < 8) (a b : Fin 56) :
    ld3 c M3 f3 k hk (ix4 0 0 a b) = M3.view.read (Elt Ideal) f3 (ix4 0 (⟨k, hk⟩ : Fin 8) a b) := by
  refine congrArg (M3.view.read (Elt Ideal) f3) (funext fun d => Fin.ext ?_)
  match d with
  | ⟨0, _⟩ => show 0 + 1 * 0 = 0; omega
  | ⟨1, _⟩ => show k + 1 * 0 = k; omega
  | ⟨2, _⟩ => show 0 + 1 * a.val = a.val; omega
  | ⟨3, _⟩ => show 0 + 1 * b.val = b.val; omega

theorem mask_apply (v : Vec Ideal S1x1x56x56 .f32) (a b : Fin 56) : k0_pay95 (F := Ideal) v (ix2 a b) = if v (ix4 0 0 a b) ≠ 0 then 1 else 0 := by
  unfold k0_pay95
  pointwise

theorem free_apply (v w : FVec Ideal S56x56 .f32) (a b : Fin 56) : k0_pay102 (F := Ideal) v w (ix2 a b) = v (ix2 a b) * (1 - w (ix2 a b)) := by
  unfold k0_pay102
  pointwise

theorem ones_apply (a b : Fin 56) : k0_pay94 (F := Ideal) (ix2 a b) = 1 := by
  unfold k0_pay94
  pointwise

theorem naV_apply (c : Dev nD) (M3 : Memref sig .tc .vmem S1x8x56x56 .f32) (f3 : Bf (F := Ideal) c M3) (n : ℕ) (a b : Fin 56) :
    naV c M3 f3 n (ix2 a b) = freeE (M3.view.read (Elt Ideal) f3) n a b := by
  induction n with
  | zero => exact ones_apply a b
  | succ n ih =>
    refine (free_apply _ _ a b).trans ?_
    rw [ih, mask_apply, ld3_apply]
    rfl

theorem selV_apply (c : Dev nD) (M3 : Memref sig .tc .vmem S1x8x56x56 .f32) (f3 : Bf (F := Ideal) c M3) (k : ℕ) (hk : k < 8) (a b : Fin 56) :
    selV c M3 f3 k hk (ix2 a b) = selE (M3.view.read (Elt Ideal) f3) (⟨k, by omega⟩ : Fin 9) a b := by
  unfold selE
  rw [dif_pos hk]
  show k0_pay95 (ld3 c M3 f3 k hk) (ix2 a b) * naV c M3 f3 (7 - k) (ix2 a b) = _
  rw [naV_apply, mask_apply, ld3_apply]
  rfl

theorem last_apply (c : Dev nD) (M3 : Memref sig .tc .vmem S1x8x56x56 .f32) (f3 : Bf (F := Ideal) c M3) (a b : Fin 56) :
    naV c M3 f3 8 (ix2 a b) = selE (M3.view.read (Elt Ideal) f3) (8 : Fin 9) a b := by
  rw [naV_apply]
  rfl

/-- The 58 rows that the kernel forms from an indicator. -/
theorem rows_apply (x4 : Vec Ideal S56x256 .f32) (o : FVec Ideal S56x56 .f32) (r : Fin 58) (X : Fin 256) :
    k0_pay4 (F := Ideal) x4 k0_pay93 o (constant S56x256 .f32 0x00000000#32) (ix2 r X)
      = if h : 1 ≤ r.val ∧ r.val ≤ 56 then ∑ k : Fin 56, o (ix2 (⟨r.val - 1, by omega⟩ : Fin 56) k) * x4 (ix2 k X) else 0 := by
  unfold k0_pay4
  pointwise [k0_pay93]
  have hr := r.isLt
  by_cases h1 : r.val < 1
  · rw [dif_pos h1, dif_neg (by omega)]
  · by_cases h2 : r.val ≤ 56
    · rw [dif_neg h1, dif_pos (by omega : r.val - 1 < 56), dif_pos ⟨by omega, h2⟩]
    · rw [dif_neg h1, dif_neg (by omega : ¬ r.val - 1 < 56), dif_neg (by omega)]

theorem slice0 (v : FVec Ideal S56x256 .f32) (w : FVec Ideal S56x56 .f32) (u : Fin 16) (X : Fin 256) :
    k0_pay5 (F := Ideal) v k0_pay93 w (constant S56x256 .f32 0x00000000#32) (ix4 0 0 u X)
      = k0_pay4 (F := Ideal) v k0_pay93 w (constant S56x256 .f32 0x00000000#32) (ix2 (⟨14 * 0 + u.val, by omega⟩ : Fin 58) X) := by
  unfold k0_pay5
  pointwise

theorem slice1 (v : FVec Ideal S56x256 .f32) (w : FVec Ideal S56x56 .f32) (u : Fin 16) (X : Fin 256) :
    k0_pay6 (F := Ideal) v k0_pay93 w (constant S56x256 .f32 0x00000000#32) (ix4 0 0 u X)
      = k0_pay4 (F := Ideal) v k0_pay93 w (constant S56x256 .f32 0x00000000#32) (ix2 (⟨14 * 1 + u.val, by omega⟩ : Fin 58) X) := by
  unfold k0_pay6
  pointwise

theorem slice2 (v : FVec Ideal S56x256 .f32) (w : FVec Ideal S56x56 .f32) (u : Fin 16) (X : Fin 256) :
    k0_pay7 (F := Ideal) v k0_pay93 w (constant S56x256 .f32 0x00000000#32) (ix4 0 0 u X)
      = k0_pay4 (F := Ideal) v k0_pay93 w (constant S56x256 .f32 0x00000000#32) (ix2 (⟨14 * 2 + u.val, by omega⟩ : Fin 58) X) := by
  unfold k0_pay7
  pointwise

theorem slice3 (v : FVec Ideal S56x256 .f32) (w : FVec Ideal S56x56 .f32) (u : Fin 16) (X : Fin 256) :
    k0_pay8 (F := Ideal) v k0_pay93 w (constant S56x256 .f32 0x00000000#32) (ix4 0 0 u X)
      = k0_pay4 (F := Ideal) v k0_pay93 w (constant S56x256 .f32 0x00000000#32) (ix2 (⟨14 * 3 + u.val, by omega⟩ : Fin 58) X) := by
  unfold k0_pay8
  pointwise

/-- The piece of region `k`, row tile `t`. -/
def ocPiece (k t : ℕ) (hk : k < 9) (ht : t < 4) (w : Vec Ideal S1x1x16x256 .bf16) : View.Piece (Elt Ideal) S9x4x16x256 .bf16 :=
  ⟨Rect.unit (s := S9x4x16x256) ![k, t, 0, 0] S1x1x16x256.size (by
    intro a
    match a with
    | ⟨0, _⟩ => show k + 1 ≤ 9; omega
    | ⟨1, _⟩ => show t + 1 ≤ 4; omega
    | ⟨2, _⟩ => show 0 + 16 ≤ 16; omega
    | ⟨3, _⟩ => show 0 + 256 ≤ 256; omega), w⟩

/-- The four stores of a region whose indicator is `o`, the newest first, above the older stores `L`. -/
def region (x4 : Vec Ideal S56x256 .f32) (o : FVec Ideal S56x56 .f32) (k : ℕ) (hk : k < 9) (L : List (View.Piece (Elt Ideal) S9x4x16x256 .bf16)) :
    List (View.Piece (Elt Ideal) S9x4x16x256 .bf16) :=
  ocPiece k 3 hk (by omega) (k0_pay8 x4 k0_pay93 o (constant S56x256 .f32 0x00000000#32))
    :: ocPiece k 2 hk (by omega) (k0_pay7 x4 k0_pay93 o (constant S56x256 .f32 0x00000000#32))
    :: ocPiece k 1 hk (by omega) (k0_pay6 x4 k0_pay93 o (constant S56x256 .f32 0x00000000#32))
    :: ocPiece k 0 hk (by omega) (k0_pay5 x4 k0_pay93 o (constant S56x256 .f32 0x00000000#32)) :: L

/-- One store of a region: what was right stays right, and the stored tile becomes so. -/
theorem oc_step (v : View sig .tc .vmem S9x4x16x256 .bf16) (X : v.ty.Contents (Elt Ideal)) (L : List (View.Piece (Elt Ideal) S9x4x16x256 .bf16))
    (G : S9x4x16x256.Idx → EReal) (P Q : ℕ → ℕ → Prop) (k t : ℕ) (hk : k < 9) (ht : t < 4) (w : Vec Ideal S1x1x16x256 .bf16)
    (h : ∀ y : S9x4x16x256.Idx, P (y 0).val (y 1).val → v.read (Elt Ideal) (v.writes (Elt Ideal) X L) y = G y)
    (hw : ∀ (u : Fin 16) (Z : Fin 256), w (ix4 0 0 u Z) = G (ix4 (⟨k, hk⟩ : Fin 9) (⟨t, ht⟩ : Fin 4) u Z))
    (hQ : ∀ a b, Q a b → P a b ∨ (a = k ∧ b = t)) :
    ∀ y : S9x4x16x256.Idx, Q (y 0).val (y 1).val → v.read (Elt Ideal) (v.writes (Elt Ideal) X (ocPiece k t hk ht w :: L)) y = G y := by
  intro y hy
  by_cases hm : (y 0).val = k ∧ (y 1).val = t
  · have hy' : y = ix4 (⟨k, hk⟩ : Fin 9) (⟨t, ht⟩ : Fin 4) (y 2) (y 3) := by
      funext d
      match d with
      | ⟨0, _⟩ => exact Fin.ext hm.1
      | ⟨1, _⟩ => exact Fin.ext hm.2
      | ⟨2, _⟩ => rfl
      | ⟨3, _⟩ => rfl
    refine (View.read_writes_cons_unit_of_mem v X _ w L y (ix4 0 0 (y 2) (y 3)) rfl ?_).trans ((hw (y 2) (y 3)).trans (congrArg G hy').symm)
    intro a
    match a with
    | ⟨0, _⟩ => show (y 0).val = k + 0; omega
    | ⟨1, _⟩ => show (y 1).val = t + 0; omega
    | ⟨2, _⟩ => show (y 2).val = 0 + (y 2).val; omega
    | ⟨3, _⟩ => show (y 3).val = 0 + (y 3).val; omega
  · have hP : P (y 0).val (y 1).val := (hQ _ _ hy).resolve_right hm
    refine Eq.trans ?_ (h y hP)
    by_cases h0 : (y 0).val = k
    · have h1 : (y 1).val ≠ t := fun e => hm ⟨h0, e⟩
      exact View.read_writes_cons_unit_of_not_mem v X _ w L y rfl (1 : Fin 4) (by
        show (y 1).val < t ∨ t + 1 ≤ (y 1).val; omega)
    · exact View.read_writes_cons_unit_of_not_mem v X _ w L y rfl (0 : Fin 4) (by
        show (y 0).val < k ∨ k + 1 ≤ (y 0).val; omega)

/-- The four stores of a region. -/
theorem region_step (v : View sig .tc .vmem S9x4x16x256 .bf16) (X : v.ty.Contents (Elt Ideal)) (L : List (View.Piece (Elt Ideal) S9x4x16x256 .bf16))
    (x : S1x8x56x56.Idx → EReal) (x4 : Vec Ideal S56x256 .f32) (o : FVec Ideal S56x56 .f32) (P Q : ℕ → Prop) (k : ℕ) (hk : k < 9)
    (h : ∀ y : S9x4x16x256.Idx, P (y 0).val → v.read (Elt Ideal) (v.writes (Elt Ideal) X L) y = ocG x x4 y)
    (ho : ∀ a b : Fin 56, o (ix2 a b) = selE x (⟨k, hk⟩ : Fin 9) a b)
    (hQ : ∀ a, Q a → P a ∨ a = k) :
    ∀ y : S9x4x16x256.Idx, Q (y 0).val → v.read (Elt Ideal) (v.writes (Elt Ideal) X (region x4 o k hk L)) y = ocG x x4 y := by
  have row : ∀ (t : ℕ) (ht : t < 4) (u : Fin 16) (Z : Fin 256),
      k0_pay4 (F := Ideal) x4 k0_pay93 o (constant S56x256 .f32 0x00000000#32) (ix2 (⟨14 * t + u.val, by omega⟩ : Fin 58) Z)
        = ocG x x4 (ix4 (⟨k, hk⟩ : Fin 9) (⟨t, ht⟩ : Fin 4) u Z) := by
    intro t ht u Z
    rw [rows_apply]
    show _ = hot x x4 (⟨k, hk⟩ : Fin 9) (14 * t + u.val) Z
    unfold hot
    by_cases hr : 1 ≤ 14 * t + u.val ∧ 14 * t + u.val ≤ 56
    · rw [dif_pos hr, dif_pos hr]
      exact Finset.sum_congr rfl fun q _ => by rw [ho]
    · rw [dif_neg hr, dif_neg hr]
  have s0 := oc_step v X L (ocG x x4) (fun a _ => P a) (fun a b => P a ∨ (a = k ∧ b < 1)) k 0 hk (by omega) _ h
    (fun u Z => (slice0 x4 o u Z).trans (row 0 (by omega) u Z)) (fun a b h => h.imp id fun h => ⟨h.1, by omega⟩)
  have s1 := oc_step v X _ (ocG x x4) (fun a b => P a ∨ (a = k ∧ b < 1)) (fun a b => P a ∨ (a = k ∧ b < 2)) k 1 hk (by omega) _ s0
    (fun u Z => (slice1 x4 o u Z).trans (row 1 (by omega) u Z)) (fun a b h => by
      rcases h with h | ⟨h, h'⟩
      · exact .inl (.inl h)
      · by_cases e : b = 1
        · exact .inr ⟨h, e⟩
        · exact .inl (.inr ⟨h, by omega⟩))
  have s2 := oc_step v X _ (ocG x x4) (fun a b => P a ∨ (a = k ∧ b < 2)) (fun a b => P a ∨ (a = k ∧ b < 3)) k 2 hk (by omega) _ s1
    (fun u Z => (slice2 x4 o u Z).trans (row 2 (by omega) u Z)) (fun a b h => by
      rcases h with h | ⟨h, h'⟩
      · exact .inl (.inl h)
      · by_cases e : b = 2
        · exact .inr ⟨h, e⟩
        · exact .inl (.inr ⟨h, by omega⟩))
  have s3 := oc_step v X _ (ocG x x4) (fun a b => P a ∨ (a = k ∧ b < 3)) (fun a b => P a ∨ (a = k ∧ b < 4)) k 3 hk (by omega) _ s2
    (fun u Z => (slice3 x4 o u Z).trans (row 3 (by omega) u Z)) (fun a b h => by
      rcases h with h | ⟨h, h'⟩
      · exact .inl (.inl h)
      · by_cases e : b = 3
        · exact .inr ⟨h, e⟩
        · exact .inl (.inr ⟨h, by omega⟩))
  intro y hy
  exact s3 y ((hQ _ hy).imp id fun e => ⟨e, (y 1).isLt⟩)

/-- The stores of the seven highest regions and of region 0, in the kernel's order. -/
def ocDown (c : Dev nD) (M3 : Memref sig .tc .vmem S1x8x56x56 .f32) (f3 : Bf (F := Ideal) c M3) (x4 : Vec Ideal S56x256 .f32) :
    ℕ → List (View.Piece (Elt Ideal) S9x4x16x256 .bf16)
  | 0 => []
  | n + 1 => region x4 (selV c M3 f3 (7 - n) (by omega)) (7 - n) (by omega) (ocDown c M3 f3 x4 n)

theorem ocDown_read (c : Dev nD) (M3 : Memref sig .tc .vmem S1x8x56x56 .f32) (f3 : Bf (F := Ideal) c M3) (x4 : Vec Ideal S56x256 .f32)
    (v : View sig .tc .vmem S9x4x16x256 .bf16) (X : v.ty.Contents (Elt Ideal)) (n : ℕ) (hn : n ≤ 8) :
    ∀ y : S9x4x16x256.Idx, (8 - n ≤ (y 0).val ∧ (y 0).val < 8) → v.read (Elt Ideal) (v.writes (Elt Ideal) X (ocDown c M3 f3 x4 n)) y
      = ocG (M3.view.read (Elt Ideal) f3) x4 y := by
  induction n with
  | zero => intro y hy; omega
  | succ n ih =>
    exact region_step v X _ _ x4 _ (fun a => 8 - n ≤ a ∧ a < 8) (fun a => 8 - (n + 1) ≤ a ∧ a < 8) (7 - n) (by omega) (ih (by omega))
      (fun a b => selV_apply c M3 f3 (7 - n) (by omega) a b) (fun a h => by omega)

set_option maxHeartbeats 4000000 in
/-- The stores of the one-hot table, region by region. -/
theorem H16_eq (c : Dev nD) (M3 : Memref sig .tc .vmem S1x8x56x56 .f32) (f3 : Bf (F := Ideal) c M3) (M4 : Memref sig .tc .vmem S56x256 .f32)
    (f4 : Bf (F := Ideal) c M4) :
    runC.sl.H16_36 (F := Ideal) c M3 M4 f3 f4
      = region (runC.sl.r_24 c M4 f4) (naV c M3 f3 8) 8 (by omega) (ocDown c M3 f3 (runC.sl.r_24 c M4 f4) 8) := rfl

/-- The one-hot table that the first point of an image leaves. -/
theorem oc_read (c : Dev nD) (M3 : Memref sig .tc .vmem S1x8x56x56 .f32) (f3 : Bf (F := Ideal) c M3) (M4 : Memref sig .tc .vmem S56x256 .f32)
    (f4 : Bf (F := Ideal) c M4) (M16 : Memref sig .tc .vmem S9x4x16x256 .bf16) (X : Bf (F := Ideal) c M16) :
    M16.view.read (Elt Ideal) (M16.view.writes (Elt Ideal) X (runC.sl.H16_36 (F := Ideal) c M3 M4 f3 f4))
      = ocG (M3.view.read (Elt Ideal) f3) (M4.view.read (Elt Ideal) f4) := by
  have e4 : runC.sl.r_24 (F := Ideal) c M4 f4 = M4.view.read (Elt Ideal) f4 := by
    funext j
    refine congrArg (M4.view.read (Elt Ideal) f4) (funext fun d => Fin.ext ?_)
    match d with
    | ⟨0, _⟩ => show 0 + 1 * (j 0).val = (j 0).val; omega
    | ⟨1, _⟩ => show 0 + 1 * (j 1).val = (j 1).val; omega
  rw [H16_eq, e4]
  funext y
  refine region_step M16.view X _ _ _ _ (fun a => 8 - 8 ≤ a ∧ a < 8) (fun a => a < 9) 8 (by omega)
    (ocDown_read c M3 f3 _ M16.view X 8 (by omega)) (fun a b => last_apply c M3 f3 a b) (fun a h => by omega) y (y 0).isLt

end Cert.KernelIdeal.Body

end
-- ==== Proof.Gcat.lean ====
/- The table of factors that the first point of the second phase builds. -/
module

public import proofs.«01_k».proof.Proof.KernelIdealBody
public import Idealize.ShloMosaic.Lib.Pipeline.Value
public import Idealize.ShloMosaic.Lib.Pipeline.ReadBack
public import Idealize.ShloMosaic.Lib.ValueIdxCore
public import Idealize.ShloMosaic.Lib.VecWindow
public import Idealize.ShloMosaic.Lib.Pointwise
public import Idealize.ShloMosaic.Lib.WritesUnit

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

/-- The mean over the two images that the two running sums give. -/
def meanG (st : S2x96x224.Idx → EReal) (k : Fin 2) (a : Fin 96) : EReal :=
  Ideal.div (∑ x : Fin 224, st (ix3 k a x)) (Ideal.ofBits .f32 0x47C40000#32)

/-- The factor of the normalized channel. -/
def scaleG (st : S2x96x224.Idx → EReal) (w : S1x96.Idx → EReal) (a : Fin 96) : EReal :=
  Ideal.div (w (ix2 0 a)) (Ideal.sqrt (meanG st 1 a - meanG st 0 a * meanG st 0 a + Ideal.ofBits .f32 0x3727C5AC#32))

/-- The offset of the normalized channel. -/
def shiftG (st : S2x96x224.Idx → EReal) (w wb : S1x96.Idx → EReal) (a : Fin 96) : EReal :=
  wb (ix2 0 a) - meanG st 0 a * scaleG st w a

/-- The two weight matrices applied to the hidden vector of region `k` in image `b`. -/
def gtG (cs : S2x512x1.Idx → EReal) (bm : S512x9.Idx → EReal) (fd : S64x512.Idx → EReal) (ft : S64x9.Idx → EReal) (wm : S1728x64.Idx → EReal)
    (b : Fin 2) (a : Fin 1728) (k : Fin 9) : EReal :=
  ∑ x : Fin 64, wm (ix2 a x) * max (∑ y : Fin 512, fd (ix2 x y) * (cs (ix3 b y 0) * bm (ix2 y k)) + ft (ix2 x k)) 0

/-- An entry of the table of an image: under tap `q / 9` and region `q % 9` the factors' upper and lower half; column 81 the constant
    terms; zeros. -/
def gVal (s h ba bb : Fin 96 → EReal) (gt : Fin 2 → Fin 1728 → Fin 9 → EReal) (b : Fin 2) (r : Fin 192) (q : Fin 128) : EReal :=
  if hq : q.val < 81 then
    (if ha : r.val < 96 then
      s (⟨r.val, ha⟩ : Fin 96) * gt b (⟨96 * (q.val / 9) + r.val, by omega⟩ : Fin 1728) (⟨q.val % 9, Nat.mod_lt _ (by decide)⟩ : Fin 9)
    else
      h (⟨r.val - 96, by omega⟩ : Fin 96) * gt b (⟨96 * (q.val / 9) + (r.val - 96), by omega⟩ : Fin 1728) (⟨q.val % 9, Nat.mod_lt _ (by decide)⟩ : Fin 9)
        + gt b (⟨864 + 96 * (q.val / 9) + (r.val - 96), by omega⟩ : Fin 1728) (⟨q.val % 9, Nat.mod_lt _ (by decide)⟩ : Fin 9))
  else if q.val = 81 then
    (if ha : r.val < 96 then ba (⟨r.val, ha⟩ : Fin 96) else bb (⟨r.val - 96, by omega⟩ : Fin 96))
  else 0

/-- The table of the two images. -/
def gcatG (s h ba bb : Fin 96 → EReal) (gt : Fin 2 → Fin 1728 → Fin 9 → EReal) : S2x192x128.Idx → EReal := fun j => gVal s h ba bb gt (j 0) (j 1) (j 2)

section
variable (s h ba bb : Fin 96 → EReal) (gt : Fin 2 → Fin 1728 → Fin 9 → EReal) (b : Fin 2) (a : Fin 96)

theorem gVal_up (n : ℕ) (hn : n < 9) (z : Fin 9) (r : Fin 192) (q : Fin 128) (hr : r.val = a.val) (hq : q.val = 9 * n + z.val) :
    gVal s h ba bb gt b r q = s a * gt b (⟨96 * n + a.val, by omega⟩ : Fin 1728) z := by
  obtain ⟨r, hr'⟩ := r
  obtain ⟨q, hq'⟩ := q
  change r = a.val at hr
  change q = 9 * n + z.val at hq
  subst hr hq
  have e1 : (9 * n + z.val) / 9 = n := by omega
  have e2 : (9 * n + z.val) % 9 = z.val := by omega
  unfold gVal
  rw [dif_pos (show 9 * n + z.val < 81 by omega), dif_pos (show a.val < 96 by omega)]
  simp only [e1, e2]

theorem gVal_dn (n : ℕ) (hn : n < 9) (z : Fin 9) (r : Fin 192) (q : Fin 128) (hr : r.val = 96 + a.val) (hq : q.val = 9 * n + z.val) :
    gVal s h ba bb gt b r q
      = h a * gt b (⟨96 * n + a.val, by omega⟩ : Fin 1728) z + gt b (⟨864 + 96 * n + a.val, by omega⟩ : Fin 1728) z := by
  obtain ⟨r, hr'⟩ := r
  obtain ⟨q, hq'⟩ := q
  change r = 96 + a.val at hr
  change q = 9 * n + z.val at hq
  subst hr hq
  have e1 : (9 * n + z.val) / 9 = n := by omega
  have e2 : (9 * n + z.val) % 9 = z.val := by omega
  have e3 : 96 + a.val - 96 = a.val := by omega
  unfold gVal
  rw [dif_pos (show 9 * n + z.val < 81 by omega), dif_neg (show ¬ 96 + a.val < 96 by omega)]
  simp only [e1, e2, e3]

theorem gVal_ca (r : Fin 192) (q : Fin 128) (hr : r.val = a.val) (hq : q.val = 81) : gVal s h ba bb gt b r q = ba a := by
  obtain ⟨r, hr'⟩ := r
  obtain ⟨q, hq'⟩ := q
  change r = a.val at hr
  change q = 81 at hq
  subst hr hq
  unfold gVal
  rw [dif_neg (show ¬ 81 < 81 by omega), if_pos rfl, dif_pos (show a.val < 96 by omega)]

theorem gVal_cb (r : Fin 192) (q : Fin 128) (hr : r.val = 96 + a.val) (hq : q.val = 81) : gVal s h ba bb gt b r q = bb a := by
  obtain ⟨r, hr'⟩ := r
  obtain ⟨q, hq'⟩ := q
  change r = 96 + a.val at hr
  change q = 81 at hq
  subst hr hq
  have e3 : 96 + a.val - 96 = a.val := by omega
  unfold gVal
  rw [dif_neg (show ¬ 81 < 81 by omega), if_pos rfl, dif_neg (show ¬ 96 + a.val < 96 by omega)]
  simp only [e3]

theorem gVal_zero (r : Fin 192) (q : Fin 128) (hq : 82 ≤ q.val) : gVal s h ba bb gt b r q = 0 := by
  unfold gVal
  rw [dif_neg (by omega), if_neg (by omega)]

end

theorem slices_lo (n : ℕ) (hn : n < 9) : S1728x9.Slices ![96 * n, 0] S96x9 := ⟨rfl, fun a => by
  match a with
  | ⟨0, _⟩ => show 96 * n + 96 ≤ 1728; omega
  | ⟨1, _⟩ => show 0 + 9 ≤ 9; omega⟩

theorem slices_hi (n : ℕ) (hn : n < 9) : S1728x9.Slices ![864 + 96 * n, 0] S96x9 := ⟨rfl, fun a => by
  match a with
  | ⟨0, _⟩ => show 864 + 96 * n + 96 ≤ 1728; omega
  | ⟨1, _⟩ => show 0 + 9 ≤ 9; omega⟩

/-- The upper half of the table's columns of one tap. -/
def upV (s : FVec Ideal S96x1 .f32) (g : FVec Ideal S1728x9 .f32) (n : ℕ) (hn : n < 9) : FVec Ideal S1x96x9 .bf16 :=
  shapeCast S1x96x9 (truncf (F := Ideal) .bf16 (mulf (F := Ideal) (broadcastTo S96x9 s broadcasts_S96x1_S96x9) (extractStridedSlice S96x9 ![96 * n, 0] g (slices_lo n hn))) bitsLt_bf16_f32) shapeCasts_S96x9_S1x96x9

/-- The lower half of the table's columns of one tap. -/
def dnV (s : FVec Ideal S96x1 .f32) (g : FVec Ideal S1728x9 .f32) (n : ℕ) (hn : n < 9) : FVec Ideal S1x96x9 .bf16 :=
  shapeCast S1x96x9 (truncf (F := Ideal) .bf16 (addf (F := Ideal) (mulf (F := Ideal) (broadcastTo S96x9 s broadcasts_S96x1_S96x9) (extractStridedSlice S96x9 ![96 * n, 0] g (slices_lo n hn)))
    (extractStridedSlice S96x9 ![864 + 96 * n, 0] g (slices_hi n hn))) bitsLt_bf16_f32) shapeCasts_S96x9_S1x96x9

theorem upV_apply (s : FVec Ideal S96x1 .f32) (g : FVec Ideal S1728x9 .f32) (n : ℕ) (hn : n < 9) (a : Fin 96) (q : Fin 9) :
    upV s g n hn (ix3 0 a q) = s (ix2 a 0) * g (ix2 (⟨96 * n + a.val, by omega⟩ : Fin 1728) q) := by
  unfold upV
  pointwise

theorem dnV_apply (s : FVec Ideal S96x1 .f32) (g : FVec Ideal S1728x9 .f32) (n : ℕ) (hn : n < 9) (a : Fin 96) (q : Fin 9) :
    dnV s g n hn (ix3 0 a q) = s (ix2 a 0) * g (ix2 (⟨96 * n + a.val, by omega⟩ : Fin 1728) q) + g (ix2 (⟨864 + 96 * n + a.val, by omega⟩ : Fin 1728) q) := by
  unfold dnV
  pointwise

theorem col_apply (v : FVec Ideal S96 .f32) (a : Fin 96) : k0_pay56 (F := Ideal) v (ix3 0 a 0) = v (ix1 a) := by
  unfold k0_pay56
  pointwise

theorem zeros_apply (a : Fin 192) (q : Fin 46) : k0_pay3 (F := Ideal) (ix3 0 a q) = 0 := by
  unfold k0_pay3
  pointwise

theorem scale_apply (st : Vec Ideal S2x96x224 .f32) (w : Vec Ideal S1x96 .f32) (a : Fin 96) : k0_pay14 (F := Ideal) st w (ix1 a) = scaleG st w a := by
  unfold k0_pay14
  pointwise [k0_pay13, k0_pay12]
  rfl

theorem shift_apply (st : Vec Ideal S2x96x224 .f32) (w wb : Vec Ideal S1x96 .f32) (a : Fin 96) : k0_pay15 (F := Ideal) st w wb (ix1 a) = shiftG st w wb a := by
  unfold k0_pay15
  pointwise [k0_pay13, k0_pay12]
  rw [scale_apply]
  rfl

theorem biasA_apply (st : Vec Ideal S2x96x224 .f32) (w ga : Vec Ideal S1x96 .f32) (a : Fin 96) :
    k0_pay17 (F := Ideal) st w ga (ix1 a) = scaleG st w a * (1 + ga (ix2 0 a)) := by
  unfold k0_pay17
  pointwise [k0_pay16]
  rw [scale_apply]

theorem biasB_apply (st : Vec Ideal S2x96x224 .f32) (w wb ga be : Vec Ideal S1x96 .f32) (a : Fin 96) :
    k0_pay18 (F := Ideal) st w wb ga be (ix1 a) = shiftG st w wb a * (1 + ga (ix2 0 a)) + be (ix2 0 a) := by
  unfold k0_pay18
  pointwise [k0_pay16]
  rw [shift_apply]

theorem scale_col (st : Vec Ideal S2x96x224 .f32) (w : Vec Ideal S1x96 .f32) (a : Fin 96) : k0_pay19 (F := Ideal) st w (ix2 a 0) = scaleG st w a := by
  unfold k0_pay19
  pointwise
  rw [scale_apply]

theorem shift_col (st : Vec Ideal S2x96x224 .f32) (w wb : Vec Ideal S1x96 .f32) (a : Fin 96) : k0_pay20 (F := Ideal) st w wb (ix2 a 0) = shiftG st w wb a := by
  unfold k0_pay20
  pointwise
  rw [shift_apply]

theorem gt_apply (fd : Vec Ideal S64x512 .f32) (ft : Vec Ideal S64x9 .f32) (wm : Vec Ideal S1728x64 .f32) (bm : Vec Ideal S512x9 .f32) (cs : Vec Ideal S1x512x1 .f32)
    (a : Fin 1728) (k : Fin 9) :
    k0_pay60 (F := Ideal) (k0_pay21 fd) (k0_pay22 ft) (k0_pay23 wm) bm cs (ix2 a k)
      = ∑ x : Fin 64, wm (ix2 a x) * max (∑ y : Fin 512, fd (ix2 x y) * (cs (ix3 0 y 0) * bm (ix2 y k)) + ft (ix2 x k)) 0 := by
  unfold k0_pay60
  pointwise [k0_pay21, k0_pay22, k0_pay23]

/-- A store: what was right stays right, and the stored box becomes so. -/
theorem store_step {s : Shape} {e : EltTy} (v : View sig .tc .vmem s e) (X : v.ty.Contents (Elt Ideal)) (L : List (View.Piece (Elt Ideal) s e))
    (G : s.Idx → Elt Ideal e) (P Q : s.Idx → Prop) (off size : Fin s.rank → ℕ) (inb : ∀ a, off a + size a ≤ s.size a)
    (w : (Rect.unit off size inb).shape.Idx → Elt Ideal e)
    (h : ∀ y, P y → v.read (Elt Ideal) (v.writes (Elt Ideal) X L) y = G y)
    (hw : ∀ x, w x = G ((Rect.unit off size inb).emb x))
    (hQ : ∀ y, Q y → P y ∨ ∀ a, off a ≤ (y a).val ∧ (y a).val < off a + size a) :
    ∀ y, Q y → v.read (Elt Ideal) (v.writes (Elt Ideal) X ((⟨Rect.unit off size inb, w⟩ : View.Piece (Elt Ideal) s e) :: L)) y = G y := by
  intro y hy
  by_cases hm : ∀ a, off a ≤ (y a).val ∧ (y a).val < off a + size a
  · have ey : (Rect.unit off size inb).emb (Rect.unitLocal (s := s) (off := off) (size := size) y hm) = y := by
      funext a
      refine Fin.ext ?_
      show off a + 1 * ((y a).val - off a) = (y a).val
      have := hm a
      omega
    refine (View.read_writes_cons_unit_of_mem v X inb w L y (Rect.unitLocal (s := s) (off := off) (size := size) y hm) rfl ?_).trans ?_
    · intro a
      rw [Rect.unitLocal_val]
      have := hm a
      omega
    · exact (hw _).trans (congrArg G ey)
  · have hP := (hQ y hy).resolve_right hm
    obtain ⟨a, ha⟩ := not_forall.mp hm
    exact (View.read_writes_cons_unit_of_not_mem v X inb w L y rfl a (by omega)).trans (h y hP)

/-- The corner of the box of image `b` at row `r` and column `q`, of height `m` and width `n`. -/
theorem box_inb (b r q m n : ℕ) (hb : b < 2) (hr : r + m ≤ 192) (hq : q + n ≤ 128) :
    ∀ a : Fin 3, (![b, r, q] : Fin 3 → ℕ) a + (![1, m, n] : Fin 3 → ℕ) a ≤ S2x192x128.size a := by
  intro a
  match a with
  | ⟨0, _⟩ => show b + 1 ≤ 2; omega
  | ⟨1, _⟩ => show r + m ≤ 192; omega
  | ⟨2, _⟩ => show q + n ≤ 128; omega

/-- A store of the table, at its coordinates. -/
theorem gstore (v : View sig .tc .vmem S2x192x128 .bf16) (X : v.ty.Contents (Elt Ideal)) (L : List (View.Piece (Elt Ideal) S2x192x128 .bf16))
    (G : S2x192x128.Idx → EReal) (P Q : ℕ → ℕ → ℕ → Prop) (b r q m n : ℕ) (hb : b < 2) (hr : r + m ≤ 192) (hq : q + n ≤ 128)
    (w : (⟨3, ![1, m, n]⟩ : Shape).Idx → EReal)
    (h : ∀ y : S2x192x128.Idx, P (y 0).val (y 1).val (y 2).val → v.read (Elt Ideal) (v.writes (Elt Ideal) X L) y = G y)
    (hw : ∀ (a : Fin m) (z : Fin n), w (ix3 0 a z) = G (ix3 (⟨b, hb⟩ : Fin 2) (⟨r + a.val, by omega⟩ : Fin 192) (⟨q + z.val, by omega⟩ : Fin 128)))
    (hQ : ∀ x y z, y < 192 → z < 128 → Q x y z → P x y z ∨ (x = b ∧ (r ≤ y ∧ y < r + m) ∧ (q ≤ z ∧ z < q + n))) :
    ∀ y : S2x192x128.Idx, Q (y 0).val (y 1).val (y 2).val →
      v.read (Elt Ideal) (v.writes (Elt Ideal) X ((⟨Rect.unit (s := S2x192x128) ![b, r, q] ![1, m, n] (box_inb b r q m n hb hr hq), w⟩ : View.Piece (Elt Ideal) S2x192x128 .bf16) :: L)) y = G y := by
  refine store_step v X L G (fun y => P (y 0).val (y 1).val (y 2).val) (fun y => Q (y 0).val (y 1).val (y 2).val) _ _ _ w h ?_ ?_
  · intro x
    have hx : x = (ix3 (0 : Fin 1) (x 1) (x 2) : (⟨3, ![1, m, n]⟩ : Shape).Idx) := by
      funext a
      match a with
      | ⟨0, _⟩ => exact Fin.ext (by have : (x 0).val < 1 := (x 0).isLt; show (x 0).val = 0; omega)
      | ⟨1, _⟩ => rfl
      | ⟨2, _⟩ => rfl
    refine (congrArg w hx).trans ((hw (x 1) (x 2)).trans (congrArg G ?_))
    funext a
    match a with
    | ⟨0, _⟩ => exact Fin.ext (by have : (x 0).val < 1 := (x 0).isLt; show b = b + 1 * (x 0).val; omega)
    | ⟨1, _⟩ => exact Fin.ext (by show r + (x 1).val = r + 1 * (x 1).val; omega)
    | ⟨2, _⟩ => exact Fin.ext (by show q + (x 2).val = q + 1 * (x 2).val; omega)
  · intro y hy
    refine (hQ _ _ _ (y 1).isLt (y 2).isLt hy).imp id fun h a => ?_
    match a with
    | ⟨0, _⟩ => exact ⟨by show b ≤ (y 0).val; omega, by show (y 0).val < b + 1; omega⟩
    | ⟨1, _⟩ => exact h.2.1
    | ⟨2, _⟩ => exact h.2.2

/-- The store of a table's box. -/
def gPiece (b r q m n : ℕ) (hb : b < 2) (hr : r + m ≤ 192) (hq : q + n ≤ 128) (w : (⟨3, ![1, m, n]⟩ : Shape).Idx → EReal) :
    View.Piece (Elt Ideal) S2x192x128 .bf16 :=
  ⟨Rect.unit (s := S2x192x128) ![b, r, q] ![1, m, n] (box_inb b r q m n hb hr hq), w⟩

/-- The stores of the first `n` taps of an image, the newest first. -/
def gTaps (b : ℕ) (hb : b < 2) (s h : FVec Ideal S96x1 .f32) (g : FVec Ideal S1728x9 .f32) (L : List (View.Piece (Elt Ideal) S2x192x128 .bf16)) :
    ℕ → List (View.Piece (Elt Ideal) S2x192x128 .bf16)
  | 0 => L
  | n + 1 =>
    gPiece b 96 (9 * (n % 9)) 96 9 hb (by omega) (by omega) (dnV h g (n % 9) (Nat.mod_lt _ (by decide)))
      :: gPiece b 0 (9 * (n % 9)) 96 9 hb (by omega) (by omega) (upV s g (n % 9) (Nat.mod_lt _ (by decide)))
      :: gTaps b hb s h g L n

/-- The stores of an image's table. -/
def gImage (b : ℕ) (hb : b < 2) (s h : FVec Ideal S96x1 .f32) (ba bb : FVec Ideal S96 .f32) (g : FVec Ideal S1728x9 .f32) (L : List (View.Piece (Elt Ideal) S2x192x128 .bf16)) :
    List (View.Piece (Elt Ideal) S2x192x128 .bf16) :=
  gPiece b 0 82 192 46 hb (by omega) (by omega) (k0_pay3 (F := Ideal))
    :: gPiece b 96 81 96 1 hb (by omega) (by omega) (k0_pay56 (F := Ideal) bb)
    :: gPiece b 0 81 96 1 hb (by omega) (by omega) (k0_pay56 (F := Ideal) ba)
    :: gTaps b hb s h g L 9

section
variable (v : View sig .tc .vmem S2x192x128 .bf16) (X : v.ty.Contents (Elt Ideal)) (L : List (View.Piece (Elt Ideal) S2x192x128 .bf16))
  (sE hE baE bbE : Fin 96 → EReal) (gE : Fin 2 → Fin 1728 → Fin 9 → EReal) (b : ℕ) (hb : b < 2)
  (s h : FVec Ideal S96x1 .f32) (ba bb : FVec Ideal S96 .f32) (g : FVec Ideal S1728x9 .f32)
  (hs : ∀ a : Fin 96, s (ix2 a 0) = sE a) (hh : ∀ a : Fin 96, h (ix2 a 0) = hE a) (hba : ∀ a : Fin 96, ba (ix1 a) = baE a)
  (hbb : ∀ a : Fin 96, bb (ix1 a) = bbE a) (hg : ∀ (a : Fin 1728) (k : Fin 9), g (ix2 a k) = gE (⟨b, hb⟩ : Fin 2) a k)
include hs hh hba hbb hg

theorem gTaps_read (P : ℕ → Prop) (hP : ¬ P b) (h0 : ∀ y : S2x192x128.Idx, P (y 0).val → v.read (Elt Ideal) (v.writes (Elt Ideal) X L) y = gcatG sE hE baE bbE gE y)
    (n : ℕ) (hn : n ≤ 9) :
    ∀ y : S2x192x128.Idx, (P (y 0).val ∨ ((y 0).val = b ∧ (y 2).val < 9 * n)) →
      v.read (Elt Ideal) (v.writes (Elt Ideal) X (gTaps b hb s h g L n)) y = gcatG sE hE baE bbE gE y := by
  induction n with
  | zero => exact fun y hy => h0 y (hy.resolve_right (by omega))
  | succ n ih =>
    have e9 : n % 9 = n := Nat.mod_eq_of_lt (by omega)
    refine gstore v X _ _ (fun x y z => P x ∨ (x = b ∧ (z < 9 * n ∨ (z < 9 * (n + 1) ∧ y < 96)))) (fun x y z => P x ∨ (x = b ∧ z < 9 * (n + 1)))
      b 96 (9 * (n % 9)) 96 9 hb (by omega) (by omega) (dnV h g (n % 9) (Nat.mod_lt _ (by decide))) ?_ ?_ ?_
    · refine gstore v X _ _ (fun x y z => P x ∨ (x = b ∧ z < 9 * n)) (fun x y z => P x ∨ (x = b ∧ (z < 9 * n ∨ (z < 9 * (n + 1) ∧ y < 96))))
        b 0 (9 * (n % 9)) 96 9 hb (by omega) (by omega) (upV s g (n % 9) (Nat.mod_lt _ (by decide))) (ih (by omega)) ?_ ?_
      · intro a z
        rw [upV_apply, hs, hg]
        exact (gVal_up sE hE baE bbE gE _ a (n % 9) (Nat.mod_lt _ (by decide)) z _ _ (by show 0 + a.val = a.val; omega) rfl).symm
      · intro x y z hy hz hh
        rw [e9]
        rcases hh with hh | ⟨hx, hz⟩
        · exact .inl (.inl hh)
        · by_cases hz' : z < 9 * n
          · exact .inl (.inr ⟨hx, hz'⟩)
          · exact .inr ⟨hx, by omega, by omega⟩
    · intro a z
      rw [dnV_apply, hh, hg, hg]
      exact (gVal_dn sE hE baE bbE gE _ a (n % 9) (Nat.mod_lt _ (by decide)) z _ _ rfl rfl).symm
    · intro x y z hy hz hh
      rw [e9]
      rcases hh with hh | ⟨hx, hz⟩
      · exact .inl (.inl hh)
      · by_cases hz' : z < 9 * n ∨ (z < 9 * (n + 1) ∧ y < 96)
        · exact .inl (.inr ⟨hx, hz'⟩)
        · exact .inr ⟨hx, by omega, by omega⟩

theorem gImage_read (P : ℕ → Prop) (hP : ¬ P b) (h0 : ∀ y : S2x192x128.Idx, P (y 0).val → v.read (Elt Ideal) (v.writes (Elt Ideal) X L) y = gcatG sE hE baE bbE gE y) :
    ∀ y : S2x192x128.Idx, (P (y 0).val ∨ (y 0).val = b) →
      v.read (Elt Ideal) (v.writes (Elt Ideal) X (gImage b hb s h ba bb g L)) y = gcatG sE hE baE bbE gE y := by
  have s0 := gTaps_read v X L sE hE baE bbE gE b hb s h ba bb g hs hh hba hbb hg P hP h0 9 (by omega)
  have s1 := gstore v X _ (gcatG sE hE baE bbE gE) (fun x y z => P x ∨ (x = b ∧ z < 81)) (fun x y z => P x ∨ (x = b ∧ (z < 81 ∨ (z = 81 ∧ y < 96))))
    b 0 81 96 1 hb (by omega) (by omega) (k0_pay56 (F := Ideal) ba) s0 (fun a z => by
      obtain rfl : z = 0 := Fin.ext (by omega)
      rw [col_apply, hba]
      exact (gVal_ca sE hE baE bbE gE _ a _ _ (by show 0 + a.val = a.val; omega) rfl).symm) (fun x y z hy hz hh => by
      rcases hh with hh | ⟨hx, hh⟩
      · exact .inl (.inl hh)
      · by_cases hz' : z < 81
        · exact .inl (.inr ⟨hx, hz'⟩)
        · exact .inr ⟨hx, by omega, by omega⟩)
  have s2 := gstore v X _ (gcatG sE hE baE bbE gE) (fun x y z => P x ∨ (x = b ∧ (z < 81 ∨ (z = 81 ∧ y < 96)))) (fun x y z => P x ∨ (x = b ∧ z < 82))
    b 96 81 96 1 hb (by omega) (by omega) (k0_pay56 (F := Ideal) bb) s1 (fun a z => by
      obtain rfl : z = 0 := Fin.ext (by omega)
      rw [col_apply, hbb]
      exact (gVal_cb sE hE baE bbE gE _ a _ _ rfl rfl).symm) (fun x y z hy hz hh => by
      rcases hh with hh | ⟨hx, hh⟩
      · exact .inl (.inl hh)
      · by_cases hz' : z < 81 ∨ (z = 81 ∧ y < 96)
        · exact .inl (.inr ⟨hx, hz'⟩)
        · exact .inr ⟨hx, by omega, by omega⟩)
  exact gstore v X _ (gcatG sE hE baE bbE gE) (fun x y z => P x ∨ (x = b ∧ z < 82)) (fun x y z => P x ∨ x = b)
    b 0 82 192 46 hb (by omega) (by omega) (k0_pay3 (F := Ideal)) s2 (fun a z => by
      rw [zeros_apply]
      exact (gVal_zero sE hE baE bbE gE _ _ _ (by show 82 ≤ 82 + z.val; omega)).symm) (fun x y z hy hz hh => by
      rcases hh with hh | hx
      · exact .inl (.inl hh)
      · by_cases hz' : z < 82
        · exact .inl (.inr ⟨hx, hz'⟩)
        · exact .inr ⟨hx, by omega, by omega⟩)

end

section
variable (c : Dev nD)
  (M5 : Memref sig .tc .vmem S2x512x1 .f32) (M6 : Memref sig .tc .vmem S512x9 .f32) (M7 : Memref sig .tc .vmem S64x512 .f32)
  (M8 : Memref sig .tc .vmem S64x9 .f32) (M9 : Memref sig .tc .vmem S1728x64 .f32) (M10 M11 M12 M13 : Memref sig .tc .vmem S1x96 .f32)
  (M17 : Memref sig .tc .vmem S2x96x224 .f32)
  (f5 : Bf (F := Ideal) c M5) (f6 : Bf (F := Ideal) c M6) (f7 : Bf (F := Ideal) c M7) (f8 : Bf (F := Ideal) c M8) (f9 : Bf (F := Ideal) c M9)
  (f10 : Bf (F := Ideal) c M10) (f11 : Bf (F := Ideal) c M11) (f12 : Bf (F := Ideal) c M12) (f13 : Bf (F := Ideal) c M13) (f17 : Bf (F := Ideal) c M17)

/-- The whole load of an array. -/
def ldAll {s : Shape} {e : EltTy} (v : View sig .tc .vmem s e) (off : Fin s.rank → ℕ) (inb : ∀ a, off a + s.size a ≤ s.size a) (X : v.ty.Contents (Elt Ideal)) : s.Idx → Elt Ideal e :=
  View.readAt (Elt Ideal) v (Rect.unit off s.size inb).toLoadRect X

theorem ldAll_eq {s : Shape} {e : EltTy} (v : View sig .tc .vmem s e) (off : Fin s.rank → ℕ) (inb : ∀ a, off a + s.size a ≤ s.size a) (X : v.ty.Contents (Elt Ideal)) :
    ldAll v off inb X = v.read (Elt Ideal) X := View.readAt_full v X inb

/-- The load of one image's code. -/
def ldCode (b : ℕ) (hb : b < 2) : Vec Ideal S1x512x1 .f32 :=
  View.readAt (Elt Ideal) M5.view (Rect.unit (s := S2x512x1) ![b, 0, 0] S1x512x1.size (by
    intro a
    match a with
    | ⟨0, _⟩ => show b + 1 ≤ 2; omega
    | ⟨1, _⟩ => show 0 + 512 ≤ 512; omega
    | ⟨2, _⟩ => show 0 + 1 ≤ 1; omega)).toLoadRect f5

theorem ldCode_apply (b : ℕ) (hb : b < 2) (y : Fin 512) : ldCode c M5 f5 b hb (ix3 0 y 0) = M5.view.read (Elt Ideal) f5 (ix3 (⟨b, hb⟩ : Fin 2) y 0) := by
  refine congrArg (M5.view.read (Elt Ideal) f5) (funext fun d => Fin.ext ?_)
  match d with
  | ⟨0, _⟩ => show b + 1 * 0 = b; omega
  | ⟨1, _⟩ => show 0 + 1 * y.val = y.val; omega
  | ⟨2, _⟩ => show 0 + 1 * 0 = 0; omega

set_option maxHeartbeats 4000000 in
/-- The stores of the table, image by image. -/
theorem H18_eq :
    runC.sl.H18_42 (F := Ideal) c M5 M6 M7 M8 M9 M10 M11 M12 M13 M17 f5 f6 f7 f8 f9 f10 f11 f12 f13 f17
      = gImage 1 (by omega) (k0_pay19 (ldAll M17.view ![0, 0, 0] inb_S2x96x224_S2x96x224_0_0_0 f17) (ldAll M10.view ![0, 0] inb_S1x96_S1x96_0_0 f10))
          (k0_pay20 (ldAll M17.view ![0, 0, 0] inb_S2x96x224_S2x96x224_0_0_0 f17) (ldAll M10.view ![0, 0] inb_S1x96_S1x96_0_0 f10) (ldAll M11.view ![0, 0] inb_S1x96_S1x96_0_0 f11))
          (k0_pay17 (ldAll M17.view ![0, 0, 0] inb_S2x96x224_S2x96x224_0_0_0 f17) (ldAll M10.view ![0, 0] inb_S1x96_S1x96_0_0 f10) (ldAll M12.view ![0, 0] inb_S1x96_S1x96_0_0 f12))
          (k0_pay18 (ldAll M17.view ![0, 0, 0] inb_S2x96x224_S2x96x224_0_0_0 f17) (ldAll M10.view ![0, 0] inb_S1x96_S1x96_0_0 f10) (ldAll M11.view ![0, 0] inb_S1x96_S1x96_0_0 f11) (ldAll M12.view ![0, 0] inb_S1x96_S1x96_0_0 f12) (ldAll M13.view ![0, 0] inb_S1x96_S1x96_0_0 f13))
          (k0_pay60 (k0_pay21 (ldAll M7.view ![0, 0] inb_S64x512_S64x512_0_0 f7)) (k0_pay22 (ldAll M8.view ![0, 0] inb_S64x9_S64x9_0_0 f8)) (k0_pay23 (ldAll M9.view ![0, 0] inb_S1728x64_S1728x64_0_0 f9)) (ldAll M6.view ![0, 0] inb_S512x9_S512x9_0_0 f6) (ldCode c M5 f5 1 (by omega)))
          (gImage 0 (by omega) (k0_pay19 (ldAll M17.view ![0, 0, 0] inb_S2x96x224_S2x96x224_0_0_0 f17) (ldAll M10.view ![0, 0] inb_S1x96_S1x96_0_0 f10))
          (k0_pay20 (ldAll M17.view ![0, 0, 0] inb_S2x96x224_S2x96x224_0_0_0 f17) (ldAll M10.view ![0, 0] inb_S1x96_S1x96_0_0 f10) (ldAll M11.view ![0, 0] inb_S1x96_S1x96_0_0 f11))
          (k0_pay17 (ldAll M17.view ![0, 0, 0] inb_S2x96x224_S2x96x224_0_0_0 f17) (ldAll M10.view ![0, 0] inb_S1x96_S1x96_0_0 f10) (ldAll M12.view ![0, 0] inb_S1x96_S1x96_0_0 f12))
          (k0_pay18 (ldAll M17.view ![0, 0, 0] inb_S2x96x224_S2x96x224_0_0_0 f17) (ldAll M10.view ![0, 0] inb_S1x96_S1x96_0_0 f10) (ldAll M11.view ![0, 0] inb_S1x96_S1x96_0_0 f11) (ldAll M12.view ![0, 0] inb_S1x96_S1x96_0_0 f12) (ldAll M13.view ![0, 0] inb_S1x96_S1x96_0_0 f13))
          (k0_pay60 (k0_pay21 (ldAll M7.view ![0, 0] inb_S64x512_S64x512_0_0 f7)) (k0_pay22 (ldAll M8.view ![0, 0] inb_S64x9_S64x9_0_0 f8)) (k0_pay23 (ldAll M9.view ![0, 0] inb_S1728x64_S1728x64_0_0 f9)) (ldAll M6.view ![0, 0] inb_S512x9_S512x9_0_0 f6) (ldCode c M5 f5 0 (by omega))) []) := rfl

/-- The table from the statistics, the weights and the codes. -/
def tabG (cs : S2x512x1.Idx → EReal) (bm : S512x9.Idx → EReal) (fd : S64x512.Idx → EReal) (ft : S64x9.Idx → EReal) (wm : S1728x64.Idx → EReal)
    (w wb ga be : S1x96.Idx → EReal) (st : S2x96x224.Idx → EReal) : S2x192x128.Idx → EReal :=
  gcatG (scaleG st w) (shiftG st w wb) (fun a => scaleG st w a * (1 + ga (ix2 0 a))) (fun a => shiftG st w wb a * (1 + ga (ix2 0 a)) + be (ix2 0 a))
    (gtG cs bm fd ft wm)

/-- The table that the first point of the second phase leaves. -/
theorem gcat_read (M18 : Memref sig .tc .vmem S2x192x128 .bf16) (X : Bf (F := Ideal) c M18) :
    M18.view.read (Elt Ideal) (M18.view.writes (Elt Ideal) X (runC.sl.H18_42 (F := Ideal) c M5 M6 M7 M8 M9 M10 M11 M12 M13 M17 f5 f6 f7 f8 f9 f10 f11 f12 f13 f17))
      = tabG (M5.view.read (Elt Ideal) f5) (M6.view.read (Elt Ideal) f6) (M7.view.read (Elt Ideal) f7) (M8.view.read (Elt Ideal) f8) (M9.view.read (Elt Ideal) f9)
          (M10.view.read (Elt Ideal) f10) (M11.view.read (Elt Ideal) f11) (M12.view.read (Elt Ideal) f12) (M13.view.read (Elt Ideal) f13) (M17.view.read (Elt Ideal) f17) := by
  rw [H18_eq]
  simp only [ldAll_eq]
  funext y
  have code : ∀ (b : ℕ) (hb : b < 2) (a : Fin 1728) (k : Fin 9),
      k0_pay60 (F := Ideal) (k0_pay21 (M7.view.read (Elt Ideal) f7)) (k0_pay22 (M8.view.read (Elt Ideal) f8)) (k0_pay23 (M9.view.read (Elt Ideal) f9)) (M6.view.read (Elt Ideal) f6) (ldCode c M5 f5 b hb) (ix2 a k)
        = gtG (M5.view.read (Elt Ideal) f5) (M6.view.read (Elt Ideal) f6) (M7.view.read (Elt Ideal) f7) (M8.view.read (Elt Ideal) f8) (M9.view.read (Elt Ideal) f9) (⟨b, hb⟩ : Fin 2) a k := by
    intro b hb a k
    rw [gt_apply]
    unfold gtG
    simp only [ldCode_apply]
  refine gImage_read M18.view X _ _ _ _ _ _ 1 (by omega) _ _ _ _ _ (scale_col _ _) (shift_col _ _ _) (biasA_apply _ _ _) (biasB_apply _ _ _ _ _) (code 1 (by omega))
    (fun x => x = 0) (by omega) ?_ y (by have : (y 0).val < 2 := (y 0).isLt; omega)
  intro y hy
  exact gImage_read M18.view X _ _ _ _ _ _ 0 (by omega) _ _ _ _ _ (scale_col _ _) (shift_col _ _ _) (biasA_apply _ _ _) (biasB_apply _ _ _ _ _) (code 0 (by omega))
    (fun _ => False) (fun h => h) (fun y h => h.elim) y (.inr hy)

end

end Cert.KernelIdeal.Body

end
-- ==== Proof.Stats.lean ====
/- What the points of the first phase leave: the two running sums, and the fixed rows of the tap scratch. -/
module

public import proofs.«01_k».proof.Proof.KernelIdealBody
public import Idealize.ShloMosaic.Lib.Pipeline.Value
public import Idealize.ShloMosaic.Lib.Pipeline.ReadBack
public import Idealize.ShloMosaic.Lib.ValueIdxCore
public import Idealize.ShloMosaic.Lib.VecWindow
public import Idealize.ShloMosaic.Lib.Pointwise
public import Idealize.ShloMosaic.Lib.WritesUnit

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

/-- The two running sums after a block `x`: its sums down the rows and its squares' sums, added. -/
def addG (x : S1x96x56x224.Idx → EReal) (st : S2x96x224.Idx → EReal) : S2x96x224.Idx → EReal := fun j =>
  st j + (if (j 0).val = 0 then ∑ y : Fin 56, x (ix4 0 (j 1) y (j 2)) else ∑ y : Fin 56, x (ix4 0 (j 1) y (j 2)) * x (ix4 0 (j 1) y (j 2)))

/-- The rows of the tap scratch that no tap writes: row 81 is ones, the rows from 82 on are zeros. -/
def Fixed (f : S128x14336.Idx → EReal) : Prop :=
  (∀ n : Fin 14336, f (ix2 (81 : Fin 128) n) = 1) ∧ ∀ (r : Fin 128) (n : Fin 14336), 82 ≤ r.val → f (ix2 r n) = 0

theorem sum_apply (x : Vec Ideal S1x96x56x224 .f32) (w : Vec Ideal S1x96x224 .f32) (a : Fin 96) (z : Fin 224) :
    k0_pay167 (F := Ideal) x w (ix3 0 a z) = w (ix3 0 a z) + ∑ y : Fin 56, x (ix4 0 a y z) := by
  unfold k0_pay167
  pointwise [k0_pay166]

theorem sq_apply (x : Vec Ideal S1x96x56x224 .f32) (w : Vec Ideal S1x96x224 .f32) (a : Fin 96) (z : Fin 224) :
    k0_pay168 (F := Ideal) x w (ix3 0 a z) = w (ix3 0 a z) + ∑ y : Fin 56, x (ix4 0 a y z) * x (ix4 0 a y z) := by
  unfold k0_pay168
  pointwise [k0_pay166]

theorem clear_apply (j : S2x96x224.Idx) : k0_pay163 (F := Ideal) j = 0 := by
  obtain ⟨a, b, c, rfl⟩ : ∃ (a : Fin 2) (b : Fin 96) (c : Fin 224), j = ix3 a b c := ⟨j 0, j 1, j 2, by
    funext d
    match d with
    | ⟨0, _⟩ => rfl
    | ⟨1, _⟩ => rfl
    | ⟨2, _⟩ => rfl⟩
  unfold k0_pay163
  pointwise

theorem one_apply (n : Fin 14336) : k0_pay164 (F := Ideal) (ix2 0 n) = 1 := by
  unfold k0_pay164
  pointwise

theorem zero_apply (r : Fin 46) (n : Fin 14336) : k0_pay165 (F := Ideal) (ix2 r n) = 0 := by
  unfold k0_pay165
  pointwise

/-- An index of the sums, at its coordinates. -/
theorem stat_idx (y : S2x96x224.Idx) (k : Fin 2) (h : (y 0).val = k.val) : y = ix3 k (y 1) (y 2) := by
  funext d
  match d with
  | ⟨0, _⟩ => exact Fin.ext h
  | ⟨1, _⟩ => rfl
  | ⟨2, _⟩ => rfl

/-- A load of one of the two sums. -/
theorem ld_stat (v : View sig .tc .vmem S2x96x224 .f32) (X : v.ty.Contents (Elt Ideal)) (k : ℕ) (hk : k < 2)
    (inb : ∀ a, (![k, 0, 0] : Fin 3 → ℕ) a + S1x96x224.size a ≤ S2x96x224.size a) (a : Fin 96) (z : Fin 224) :
    View.readAt (Elt Ideal) v (Rect.unit (s := S2x96x224) ![k, 0, 0] S1x96x224.size inb).toLoadRect X (ix3 0 a z)
      = v.read (Elt Ideal) X (ix3 (⟨k, hk⟩ : Fin 2) a z) := by
  refine congrArg (v.read (Elt Ideal) X) (funext fun d => Fin.ext ?_)
  match d with
  | ⟨0, _⟩ => show k + 1 * 0 = k; omega
  | ⟨1, _⟩ => show 0 + 1 * a.val = a.val; omega
  | ⟨2, _⟩ => show 0 + 1 * z.val = z.val; omega

/-- The store of the first sum alone leaves the second. -/
theorem stat_other (v : View sig .tc .vmem S2x96x224 .f32) (X : v.ty.Contents (Elt Ideal)) (L : List (View.Piece (Elt Ideal) S2x96x224 .f32))
    (inb : ∀ a, (![0, 0, 0] : Fin 3 → ℕ) a + S1x96x224.size a ≤ S2x96x224.size a) (w : Vec Ideal S1x96x224 .f32) (a : Fin 96) (z : Fin 224) :
    v.read (Elt Ideal) (v.writes (Elt Ideal) X ((⟨Rect.unit (s := S2x96x224) ![0, 0, 0] S1x96x224.size inb, w⟩ : View.Piece (Elt Ideal) S2x96x224 .f32) :: L)) (ix3 (1 : Fin 2) a z)
      = v.read (Elt Ideal) (v.writes (Elt Ideal) X L) (ix3 (1 : Fin 2) a z) :=
  View.read_writes_cons_unit_of_not_mem v X inb w L (ix3 (1 : Fin 2) a z) rfl (0 : Fin 3) (Or.inr (show 0 + 1 ≤ 1 by omega))

/-- The two stores of a point of the first phase. -/
theorem stat_store (v : View sig .tc .vmem S2x96x224 .f32) (X : v.ty.Contents (Elt Ideal)) (L : List (View.Piece (Elt Ideal) S2x96x224 .f32))
    (st : S2x96x224.Idx → EReal) (h : v.read (Elt Ideal) (v.writes (Elt Ideal) X L) = st) (x : Vec Ideal S1x96x56x224 .f32) (w0 w1 : Vec Ideal S1x96x224 .f32)
    (h0 : ∀ (a : Fin 96) (z : Fin 224), w0 (ix3 0 a z) = st (ix3 (0 : Fin 2) a z)) (h1 : ∀ (a : Fin 96) (z : Fin 224), w1 (ix3 0 a z) = st (ix3 (1 : Fin 2) a z))
    (inb0 : ∀ a, (![0, 0, 0] : Fin 3 → ℕ) a + S1x96x224.size a ≤ S2x96x224.size a) (inb1 : ∀ a, (![1, 0, 0] : Fin 3 → ℕ) a + S1x96x224.size a ≤ S2x96x224.size a) :
    v.read (Elt Ideal) (v.writes (Elt Ideal) X ((⟨Rect.unit (s := S2x96x224) ![1, 0, 0] S1x96x224.size inb1, k0_pay168 (F := Ideal) x w1⟩ : View.Piece (Elt Ideal) S2x96x224 .f32)
      :: (⟨Rect.unit (s := S2x96x224) ![0, 0, 0] S1x96x224.size inb0, k0_pay167 (F := Ideal) x w0⟩ : View.Piece (Elt Ideal) S2x96x224 .f32) :: L)) = addG x st := by
  funext y
  have hy0 : (y 0).val < 2 := (y 0).isLt
  by_cases hy : (y 0).val = 0
  · rw [stat_idx y 0 hy]
    refine (View.read_writes_cons_unit_of_not_mem v X inb1 _ _ (ix3 (0 : Fin 2) (y 1) (y 2)) rfl (0 : Fin 3) (Or.inl (show 0 < 1 by omega))).trans ?_
    refine (View.read_writes_cons_unit_of_mem v X inb0 _ L (ix3 (0 : Fin 2) (y 1) (y 2)) (ix3 0 (y 1) (y 2)) rfl ?_).trans ?_
    · intro a
      match a with
      | ⟨0, _⟩ => rfl
      | ⟨1, _⟩ => show (y 1).val = 0 + (y 1).val; omega
      | ⟨2, _⟩ => show (y 2).val = 0 + (y 2).val; omega
    · refine (sum_apply x w0 (y 1) (y 2)).trans ?_
      exact congrArg (· + _) (h0 (y 1) (y 2))
  · rw [stat_idx y 1 (by show (y 0).val = 1; omega)]
    refine (View.read_writes_cons_unit_of_mem v X inb1 _ _ (ix3 (1 : Fin 2) (y 1) (y 2)) (ix3 0 (y 1) (y 2)) rfl ?_).trans ?_
    · intro a
      match a with
      | ⟨0, _⟩ => rfl
      | ⟨1, _⟩ => show (y 1).val = 0 + (y 1).val; omega
      | ⟨2, _⟩ => show (y 2).val = 0 + (y 2).val; omega
    · refine (sq_apply x w1 (y 1) (y 2)).trans ?_
      exact congrArg (· + _) (h1 (y 1) (y 2))

section
variable (c : Dev nD) (M2 : Memref sig .tc .vmem S1x96x56x224 .f32) (M17 : Memref sig .tc .vmem S2x96x224 .f32)
  (f2 : Bf (F := Ideal) c M2) (f17 : Bf (F := Ideal) c M17)

/-- A point of the first phase after the first: the sums grow by its block. -/
theorem stat_B :
    M17.view.read (Elt Ideal) (M17.view.writes (Elt Ideal) f17
      [⟨Rect.unit ![1, 0, 0] ![1, 96, 224] inb_S2x96x224_S1x96x224_1_0_0,
        k0_pay168 (View.readAt (Elt Ideal) M2.view (Rect.unit ![0, 0, 0, 0] ![1, 96, 56, 224] inb_S1x96x56x224_S1x96x56x224_0_0_0_0).toLoadRect f2) (runB.sl.v57 c M17 f17)⟩,
       ⟨Rect.unit ![0, 0, 0] ![1, 96, 224] inb_S2x96x224_S1x96x224_0_0_0,
        k0_pay167 (View.readAt (Elt Ideal) M2.view (Rect.unit ![0, 0, 0, 0] ![1, 96, 56, 224] inb_S1x96x56x224_S1x96x56x224_0_0_0_0).toLoadRect f2)
          (View.readAt (Elt Ideal) M17.view (Rect.unit ![0, 0, 0] ![1, 96, 224] inb_S2x96x224_S1x96x224_0_0_0).toLoadRect f17)⟩])
      = addG (M2.view.read (Elt Ideal) f2) (M17.view.read (Elt Ideal) f17) := by
  refine (stat_store M17.view f17 [] (M17.view.read (Elt Ideal) f17) rfl _ _ _ (fun a z => ld_stat M17.view f17 0 (by omega) _ a z) (fun a z => ld_stat M17.view f17 1 (by omega) _ a z) _ _).trans ?_
  exact congrArg (fun x => addG x (M17.view.read (Elt Ideal) f17)) (View.readAt_full M2.view f2 inb_S1x96x56x224_S1x96x56x224_0_0_0_0)

/-- The first point: the sums are its block's. -/
theorem stat_A :
    M17.view.read (Elt Ideal) (M17.view.writes (Elt Ideal) f17
      (⟨Rect.unit ![1, 0, 0] ![1, 96, 224] inb_S2x96x224_S1x96x224_1_0_0,
        k0_pay168 (View.readAt (Elt Ideal) M2.view (Rect.unit ![0, 0, 0, 0] ![1, 96, 56, 224] inb_S1x96x56x224_S1x96x56x224_0_0_0_0).toLoadRect f2) (runA.sl.v57 c M2 M17 f2)⟩
       :: runA.sl.H17_2 c M2 M17 f2))
      = addG (M2.view.read (Elt Ideal) f2) (fun _ => 0) := by
  have hz : ∀ X : M17.view.ty.Contents (Elt Ideal), M17.view.read (Elt Ideal) (M17.view.writes (Elt Ideal) X runA.sl.H17_1) = fun _ => 0 := by
    intro X
    funext j
    unfold runA.sl.H17_1
    rw [View.read_writes_full]
    exact clear_apply j
  refine (stat_store M17.view f17 runA.sl.H17_1 (fun _ => 0) (hz f17) _ (runA.sl.v50 M17) (runA.sl.v57 c M2 M17 f2) ?_ ?_ _ _).trans ?_
  · intro a z
    refine (ld_stat M17.view (M17.view.writes (Elt Ideal) M17.view.junk runA.sl.H17_1) 0 (by omega) _ a z).trans ?_
    rw [hz]
  · intro a z
    refine (ld_stat M17.view (M17.view.writes (Elt Ideal) M17.view.junk (runA.sl.H17_2 c M2 M17 f2)) 1 (by omega) _ a z).trans ?_
    refine (stat_other M17.view _ runA.sl.H17_1 inb_S2x96x224_S1x96x224_0_0_0 _ a z).trans ?_
    rw [hz]
  · exact congrArg (fun x => addG x (fun _ => 0)) (View.readAt_full M2.view f2 inb_S1x96x56x224_S1x96x56x224_0_0_0_0)

end

/-- The first point writes the fixed rows of the tap scratch. -/
theorem fixed_A (c : Dev nD) (M15 : Memref sig .tc .vmem S128x14336 .bf16) (f15 : Bf (F := Ideal) c M15) :
    Fixed (M15.view.read (Elt Ideal) (M15.view.writes (Elt Ideal) f15
      [⟨Rect.unit ![82, 0] ![46, 14336] inb_S128x14336_S46x14336_82_0, k0_pay165 (F := Ideal)⟩,
       ⟨Rect.unit ![80, 0] ![2, 14336] inb_S128x14336_S2x14336_80_0,
        updateSlice (View.readAt (Elt Ideal) M15.view (Rect.unit ![80, 0] ![2, 14336] inb_S128x14336_S2x14336_80_0).toLoadRect f15) (k0_pay164 (F := Ideal)) ![1, 0] slices_S2x14336_S1x14336_1_0⟩])) := by
  constructor
  · intro n
    refine (View.read_writes_cons_unit_of_not_mem M15.view f15 _ _ _ (ix2 (81 : Fin 128) n) rfl (0 : Fin 2) (Or.inl (show 81 < 82 by omega))).trans ?_
    refine (View.read_writes_cons_unit_of_mem M15.view f15 _ _ [] (ix2 (81 : Fin 128) n) (ix2 (1 : Fin 2) n) rfl ?_).trans ?_
    · intro a
      match a with
      | ⟨0, _⟩ => rfl
      | ⟨1, _⟩ => show n.val = 0 + n.val; omega
    · unfold updateSlice
      refine (dif_pos ?_).trans ((congrArg (k0_pay164 (F := Ideal)) ?_).trans (one_apply n))
      · intro a
        match a with
        | ⟨0, _⟩ => exact ⟨show 1 ≤ 1 by omega, show 1 < 1 + 1 by omega⟩
        | ⟨1, _⟩ => exact ⟨Nat.zero_le _, show n.val < 0 + 14336 by omega⟩
      · funext a
        match a with
        | ⟨0, _⟩ => rfl
        | ⟨1, _⟩ => exact Fin.ext (show n.val - 0 = n.val by omega)
  · intro r n hr
    refine (View.read_writes_cons_unit_of_mem M15.view f15 _ _ _ (ix2 r n) (ix2 (⟨r.val - 82, by omega⟩ : Fin 46) n) rfl ?_).trans (zero_apply _ n)
    intro a
    match a with
    | ⟨0, _⟩ => show r.val = 82 + (r.val - 82); omega
    | ⟨1, _⟩ => show n.val = 0 + n.val; omega

end Cert.KernelIdeal.Body

end
-- ==== Proof.Points.lean ====
/- What the body leaves at a grid point, whichever way its guards open, as functions of what it found. -/
module

public import proofs.«01_k».proof.Proof.KernelIdealLaunch
public import proofs.«01_k».proof.Proof.Taps
public import proofs.«01_k».proof.Proof.OneHot
public import proofs.«01_k».proof.Proof.Gcat
public import proofs.«01_k».proof.Proof.Stats

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

section
variable (c : Dev nD) (i : grid0.Coords)     (M2 : Memref sig .tc .vmem S1x96x56x224 .f32) (h2 : M2.IsWhole)     (M3 : Memref sig .tc .vmem S1x8x56x56 .f32) (h3 : M3.IsWhole)     (M4 : Memref sig .tc .vmem S56x256 .f32) (h4 : M4.IsWhole)     (M5 : Memref sig .tc .vmem S2x512x1 .f32) (h5 : M5.IsWhole)     (M6 : Memref sig .tc .vmem S512x9 .f32) (h6 : M6.IsWhole)     (M7 : Memref sig .tc .vmem S64x512 .f32) (h7 : M7.IsWhole)     (M8 : Memref sig .tc .vmem S64x9 .f32) (h8 : M8.IsWhole)     (M9 : Memref sig .tc .vmem S1728x64 .f32) (h9 : M9.IsWhole)     (M10 : Memref sig .tc .vmem S1x96 .f32) (h10 : M10.IsWhole)     (M11 : Memref sig .tc .vmem S1x96 .f32) (h11 : M11.IsWhole)     (M12 : Memref sig .tc .vmem S1x96 .f32) (h12 : M12.IsWhole)     (M13 : Memref sig .tc .vmem S1x96 .f32) (h13 : M13.IsWhole)     (M14 : Memref sig .tc .vmem S1x96x56x224 .f32) (h14 : M14.IsWhole)     (M15 : Memref sig .tc .vmem S128x14336 .bf16) (h15 : M15.IsWhole)     (M16 : Memref sig .tc .vmem S9x4x16x256 .bf16) (h16 : M16.IsWhole)     (M17 : Memref sig .tc .vmem S2x96x224 .f32) (h17 : M17.IsWhole)     (M18 : Memref sig .tc .vmem S2x192x128 .bf16) (h18 : M18.IsWhole)     (f2 : Bf (F := Ideal) c M2) (f3 : Bf (F := Ideal) c M3) (f4 : Bf (F := Ideal) c M4) (f5 : Bf (F := Ideal) c M5)     (f6 : Bf (F := Ideal) c M6) (f7 : Bf (F := Ideal) c M7) (f8 : Bf (F := Ideal) c M8) (f9 : Bf (F := Ideal) c M9)     (f10 : Bf (F := Ideal) c M10) (f11 : Bf (F := Ideal) c M11) (f12 : Bf (F := Ideal) c M12) (f13 : Bf (F := Ideal) c M13)     (f14 : Bf (F := Ideal) c M14) (f15 : Bf (F := Ideal) c M15) (f16 : Bf (F := Ideal) c M16) (f17 : Bf (F := Ideal) c M17)     (f18 : Bf (F := Ideal) c M18)

/-- The first point fixes the constant rows of the tap scratch and starts the sums. -/
theorem step_A (hc1 : c1 i) :
    Fixed (M15.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.1)
      ∧ M17.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.1 = addG (M2.view.read (Elt Ideal) f2) (fun _ => 0) := by
  unfold stepAt
  rw [dif_pos hc1]
  unfold runA
  dsimp only
  exact ⟨fixed_A c M15 f15, stat_A c M2 M17 f2 f17⟩

/-- A later point of the first phase keeps the tap scratch and adds to the sums. -/
theorem step_B (hc1 : ¬ c1 i) (hc2 : c2 i) :
    (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.1 = f15
      ∧ M17.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.1 = addG (M2.view.read (Elt Ideal) f2) (M17.view.read (Elt Ideal) f17) := by
  unfold stepAt
  rw [dif_neg hc1, dif_pos hc2]
  unfold runB
  dsimp only
  exact ⟨rfl, stat_B c M2 M17 f2 f17⟩

/-- A point of the second phase that starts no image: the taps from the regions at hand, the output block from the table at hand. -/
theorem step_E (hc1 : ¬ c1 i) (hc2 : ¬ c2 i) (hc3 : ¬ c3 i) (hc4 : ¬ c4 i) :
    M15.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.1 = fAfter (M16.view.read (Elt Ideal) f16) (tile i) (M15.view.read (Elt Ideal) f15)
      ∧ M16.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.1 = (M16.view.read (Elt Ideal) f16)
      ∧ (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.1 = f17
      ∧ M18.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.2 = (M18.view.read (Elt Ideal) f18)
      ∧ ∀ (a : Fin 96) (y : Fin 56) (z : Fin 224), M14.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.1 (ix4 0 a y z) = outBlock (M18.view.read (Elt Ideal) f18) (image i) (fAfter (M16.view.read (Elt Ideal) f16) (tile i) (M15.view.read (Elt Ideal) f15)) (M2.view.read (Elt Ideal) f2) a y z := by
  unfold stepAt
  rw [dif_neg hc1, dif_neg hc2, dif_neg hc3, dif_neg hc4]
  unfold runE
  dsimp only
  have hc5 : k0_cond5 i = 1#1 := cond_E i hc2
  exact ⟨taps_read c i M15 M16 f15 f16 hc5, rfl, rfl, rfl, fun a y z => out_read c i M15 M16 f15 f16 M2 M14 M18 f2 M14.view.junk f18 hc5 a y z⟩

/-- The first point of the second image: it builds its regions, and goes on from them. -/
theorem step_D (hc1 : ¬ c1 i) (hc2 : ¬ c2 i) (hc3 : ¬ c3 i) (hc4 : c4 i) :
    M15.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.1 = fAfter (ocG (M3.view.read (Elt Ideal) f3) (M4.view.read (Elt Ideal) f4)) (tile i) (M15.view.read (Elt Ideal) f15)
      ∧ M16.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.1 = (ocG (M3.view.read (Elt Ideal) f3) (M4.view.read (Elt Ideal) f4))
      ∧ (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.1 = f17
      ∧ M18.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.2 = (M18.view.read (Elt Ideal) f18)
      ∧ ∀ (a : Fin 96) (y : Fin 56) (z : Fin 224), M14.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.1 (ix4 0 a y z) = outBlock (M18.view.read (Elt Ideal) f18) (image i) (fAfter (ocG (M3.view.read (Elt Ideal) f3) (M4.view.read (Elt Ideal) f4)) (tile i) (M15.view.read (Elt Ideal) f15)) (M2.view.read (Elt Ideal) f2) a y z := by
  unfold stepAt
  rw [dif_neg hc1, dif_neg hc2, dif_neg hc3, dif_pos hc4]
  unfold runD
  dsimp only
  have hc5 : k0_cond5 i = 1#1 := cond_E i hc2
  have e := oc_read c M3 f3 M4 f4 M16 M16.view.junk
  refine ⟨?_, e, rfl, rfl, fun a y z => ?_⟩
  · exact (taps_read c i M15 M16 f15 (M16.view.writes (Elt Ideal) M16.view.junk (runC.sl.H16_36 c M3 M4 f3 f4)) hc5).trans (by rw [e])
  · exact (out_read c i M15 M16 f15 (M16.view.writes (Elt Ideal) M16.view.junk (runC.sl.H16_36 c M3 M4 f3 f4)) M2 M14 M18 f2 M14.view.junk f18 hc5 a y z).trans (by rw [e])

/-- The first point of the second phase: it builds the table and the first image's regions, and goes on from them. -/
theorem step_C (hc1 : ¬ c1 i) (hc2 : ¬ c2 i) (hc3 : c3 i) :
    M15.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.1 = fAfter (ocG (M3.view.read (Elt Ideal) f3) (M4.view.read (Elt Ideal) f4)) (tile i) (M15.view.read (Elt Ideal) f15)
      ∧ M16.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.1 = (ocG (M3.view.read (Elt Ideal) f3) (M4.view.read (Elt Ideal) f4))
      ∧ (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.1 = f17
      ∧ M18.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.2.2.2.2 = (tabG (M5.view.read (Elt Ideal) f5) (M6.view.read (Elt Ideal) f6) (M7.view.read (Elt Ideal) f7) (M8.view.read (Elt Ideal) f8) (M9.view.read (Elt Ideal) f9) (M10.view.read (Elt Ideal) f10) (M11.view.read (Elt Ideal) f11) (M12.view.read (Elt Ideal) f12) (M13.view.read (Elt Ideal) f13) (M17.view.read (Elt Ideal) f17))
      ∧ ∀ (a : Fin 96) (y : Fin 56) (z : Fin 224), M14.view.read (Elt Ideal) (stepAt (F := Ideal) c i M2 h2 M3 h3 M4 h4 M5 h5 M6 h6 M7 h7 M8 h8 M9 h9 M10 h10 M11 h11 M12 h12 M13 h13 M14 h14 M15 h15 M16 h16 M17 h17 M18 h18 f2 f3 f4 f5 f6 f7 f8 f9 f10 f11 f12 f13 f14 f15 f16 f17 f18).1.1 (ix4 0 a y z) = outBlock (tabG (M5.view.read (Elt Ideal) f5) (M6.view.read (Elt Ideal) f6) (M7.view.read (Elt Ideal) f7) (M8.view.read (Elt Ideal) f8) (M9.view.read (Elt Ideal) f9) (M10.view.read (Elt Ideal) f10) (M11.view.read (Elt Ideal) f11) (M12.view.read (Elt Ideal) f12) (M13.view.read (Elt Ideal) f13) (M17.view.read (Elt Ideal) f17)) (image i) (fAfter (ocG (M3.view.read (Elt Ideal) f3) (M4.view.read (Elt Ideal) f4)) (tile i) (M15.view.read (Elt Ideal) f15)) (M2.view.read (Elt Ideal) f2) a y z := by
  unfold stepAt
  rw [dif_neg hc1, dif_neg hc2, dif_pos hc3]
  unfold runC
  dsimp only
  have hc5 : k0_cond5 i = 1#1 := (cond_C i hc3).2
  have e := oc_read c M3 f3 M4 f4 M16 M16.view.junk
  have g := gcat_read c M5 M6 M7 M8 M9 M10 M11 M12 M13 M17 f5 f6 f7 f8 f9 f10 f11 f12 f13 f17 M18 M18.view.junk
  refine ⟨?_, e, rfl, g, fun a y z => ?_⟩
  · exact (taps_read c i M15 M16 f15 (M16.view.writes (Elt Ideal) M16.view.junk (runC.sl.H16_36 c M3 M4 f3 f4)) hc5).trans (by rw [e])
  · exact (out_read c i M15 M16 f15 (M16.view.writes (Elt Ideal) M16.view.junk (runC.sl.H16_36 c M3 M4 f3 f4)) M2 M14 M18 f2 M14.view.junk (M18.view.writes (Elt Ideal) M18.view.junk (runC.sl.H18_42 c M5 M6 M7 M8 M9 M10 M11 M12 M13 M17 f5 f6 f7 f8 f9 f10 f11 f12 f13 f17)) hc5 a y z).trans (by rw [e, g])

end

end Cert.KernelIdeal.Body

end
-- ==== Proof.Chain.lean ====
/- What the scratch holds before each grid point, and the output block that each point of the second phase leaves. -/
module

public import proofs.«01_k».proof.Proof.Points

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

theorem at_c1 : ∀ t : Fin cfg0.N, c1 (grid0.coords t) ↔ t.val = 0 := by decide +kernel
theorem at_c2 : ∀ t : Fin cfg0.N, c2 (grid0.coords t) ↔ t.val < 8 := by decide +kernel
theorem at_c3 : ∀ t : Fin cfg0.N, c3 (grid0.coords t) ↔ t.val = 8 := by decide +kernel
theorem at_c4 : ∀ t : Fin cfg0.N, c4 (grid0.coords t) ↔ t.val = 8 ∨ t.val = 12 := by decide +kernel

/-- The rows that no tap writes stay. -/
theorem Fixed.after {f : S128x14336.Idx → EReal} (h : Fixed f) (oc : S9x4x16x256.Idx → EReal) (t : Fin 4) : Fixed (fAfter oc t f) := by
  constructor
  · intro n
    unfold fAfter
    exact (dif_neg (show ¬ (81 : ℕ) < 81 by omega)).trans (h.1 n)
  · intro r n hr
    unfold fAfter
    exact (dif_neg (show ¬ r.val < 81 by omega)).trans (h.2 r n hr)

section
variable (m : (ℓ : Loc nD τ sig) → Buf (Elt Ideal) ℓ) (c : Dev nD)

/-- The input block of a point. -/
abbrev xB (t : Fin cfg0.N) : S1x96x56x224.Idx → EReal := iblk m c 0 t

/-- The two running sums after the first `n` points. -/
def stF : ℕ → S2x96x224.Idx → EReal
  | 0 => fun _ => 0
  | n + 1 => if h : n < cfg0.N then addG (xB m c ⟨n, h⟩) (stF n) else stF n

/-- The first points of the two images in the second phase. -/
abbrev pt8 : Fin cfg0.N := ⟨8, by decide⟩
abbrev pt12 : Fin cfg0.N := ⟨12, by decide⟩

/-- The region table before point `n` of the second phase. -/
def ocF (n : ℕ) : S9x4x16x256.Idx → EReal :=
  if n ≤ 12 then ocG (iblk m c 1 pt8) (iblk m c 2 pt8) else ocG (iblk m c 1 pt12) (iblk m c 2 pt12)

/-- The table of factors of the second phase. -/
def tabF : S2x192x128.Idx → EReal :=
  tabG (iblk m c 3 pt8) (iblk m c 4 pt8) (iblk m c 5 pt8) (iblk m c 6 pt8) (iblk m c 7 pt8) (iblk m c 8 pt8) (iblk m c 9 pt8) (iblk m c 10 pt8) (iblk m c 11 pt8) (stF m c 8)

/-- What the scratch reads. -/
abbrev rdF (s : Scr (F := Ideal) c) : S128x14336.Idx → EReal := (Memref.whole cc0_scratch0 : Memref sig .tc .vmem S128x14336 .bf16).view.read (Elt Ideal) s.1
abbrev rdO (s : Scr (F := Ideal) c) : S9x4x16x256.Idx → EReal := (Memref.whole cc0_scratch1 : Memref sig .tc .vmem S9x4x16x256 .bf16).view.read (Elt Ideal) s.2.1
abbrev rdS (s : Scr (F := Ideal) c) : S2x96x224.Idx → EReal := (Memref.whole cc0_scratch2 : Memref sig .tc .vmem S2x96x224 .f32).view.read (Elt Ideal) s.2.2.1
abbrev rdG (s : Scr (F := Ideal) c) : S2x192x128.Idx → EReal := (Memref.whole cc0_scratch3 : Memref sig .tc .vmem S2x192x128 .bf16).view.read (Elt Ideal) s.2.2.2

/-- What is known of the scratch before point `n`. -/
def Known (n : ℕ) (s : Scr (F := Ideal) c) : Prop :=
  (1 ≤ n → Fixed (rdF c s)) ∧ (1 ≤ n → rdS c s = stF m c (min n 8)) ∧ (9 ≤ n → rdG c s = tabF m c) ∧ (9 ≤ n → rdO c s = ocF m c n)

theorem point_A (t : Fin cfg0.N) (f14) (s : Scr (F := Ideal) c) (ht : t.val = 0) :
    Fixed (rdF c (step m c t f14 s).2) ∧ rdS c (step m c t f14 s).2 = addG (xB m c t) (fun _ => 0) := by
  unfold step stepAt' rdF rdS
  have h := step_A (hc1 := (at_c1 t).2 ht)
  refine ⟨(h ..).1, (h ..).2.trans ?_⟩
  rw [Memref.IsWhole.read_unread]

theorem point_B (t : Fin cfg0.N) (f14) (s : Scr (F := Ideal) c) (h0 : t.val ≠ 0) (h8 : t.val < 8) :
    rdF c (step m c t f14 s).2 = rdF c s ∧ rdS c (step m c t f14 s).2 = addG (xB m c t) (rdS c s) := by
  unfold step stepAt' rdF rdS
  have h := step_B (hc1 := fun h => h0 ((at_c1 t).1 h)) (hc2 := (at_c2 t).2 h8)
  refine ⟨congrArg _ (h ..).1, (h ..).2.trans ?_⟩
  rw [Memref.IsWhole.read_unread]

/-- What a point of the second phase leaves, the region table and the factors at hand being `oc` and `g`. -/
def Second (t : Fin cfg0.N) (r : Bf (F := Ideal) c (st0_12 t) × Scr (F := Ideal) c) (s : Scr (F := Ideal) c) (oc : S9x4x16x256.Idx → EReal) (g : S2x192x128.Idx → EReal) : Prop :=
  rdF c r.2 = fAfter oc (tile (grid0.coords t)) (rdF c s) ∧ rdO c r.2 = oc ∧ rdS c r.2 = rdS c s ∧ rdG c r.2 = g
    ∧ ∀ (a : Fin 96) (y : Fin 56) (z : Fin 224), (st0_12 t).view.read (Elt Ideal) r.1 (ix4 0 a y z)
        = outBlock g (image (grid0.coords t)) (fAfter oc (tile (grid0.coords t)) (rdF c s)) (xB m c t) a y z

set_option maxHeartbeats 4000000 in
theorem point_E (t : Fin cfg0.N) (f14) (s : Scr (F := Ideal) c) (h8 : 8 < t.val) (h12 : t.val ≠ 12) :
    Second m c t (step m c t f14 s) s (rdO c s) (rdG c s) := by
  unfold Second step stepAt' rdF rdO rdS rdG
  have h := step_E (hc1 := fun h => absurd ((at_c1 t).1 h) (by omega)) (hc2 := fun h => absurd ((at_c2 t).1 h) (by omega))
    (hc3 := fun h => absurd ((at_c3 t).1 h) (by omega)) (hc4 := fun h => absurd ((at_c4 t).1 h) (by omega))
  refine ⟨((h ..).1).trans ?_, ((h ..).2.1).trans ?_, congrArg _ (h ..).2.2.1, ((h ..).2.2.2.1).trans ?_, fun a y z => ((h ..).2.2.2.2 a y z).trans ?_⟩
  · rfl
  · rfl
  · rfl
  · rw [Memref.IsWhole.read_unread]

theorem point_D (t : Fin cfg0.N) (f14) (s : Scr (F := Ideal) c) (h12 : t.val = 12) :
    Second m c t (step m c t f14 s) s (ocG (iblk m c 1 t) (iblk m c 2 t)) (rdG c s) := by
  unfold Second step stepAt' rdF rdO rdS rdG
  have h := step_D (hc1 := fun h => absurd ((at_c1 t).1 h) (by omega)) (hc2 := fun h => absurd ((at_c2 t).1 h) (by omega))
    (hc3 := fun h => absurd ((at_c3 t).1 h) (by omega)) (hc4 := (at_c4 t).2 (by omega))
  refine ⟨((h ..).1).trans ?_, ((h ..).2.1).trans ?_, congrArg _ (h ..).2.2.1, (h ..).2.2.2.1, fun a y z => ((h ..).2.2.2.2 a y z).trans ?_⟩ <;>
    simp only [Memref.IsWhole.read_unread]

theorem point_C (t : Fin cfg0.N) (f14) (s : Scr (F := Ideal) c) (h8 : t.val = 8) :
    Second m c t (step m c t f14 s) s (ocG (iblk m c 1 t) (iblk m c 2 t))
      (tabG (iblk m c 3 t) (iblk m c 4 t) (iblk m c 5 t) (iblk m c 6 t) (iblk m c 7 t) (iblk m c 8 t) (iblk m c 9 t) (iblk m c 10 t) (iblk m c 11 t) (rdS c s)) := by
  unfold Second step stepAt' rdF rdO rdS rdG
  have h := step_C (hc1 := fun h => absurd ((at_c1 t).1 h) (by omega)) (hc2 := fun h => absurd ((at_c2 t).1 h) (by omega)) (hc3 := (at_c3 t).2 h8)
  refine ⟨((h ..).1).trans ?_, ((h ..).2.1).trans ?_, congrArg _ (h ..).2.2.1, ((h ..).2.2.2.1).trans ?_, fun a y z => ((h ..).2.2.2.2 a y z).trans ?_⟩ <;>
    simp only [Memref.IsWhole.read_unread]

/-- What a point of the second phase leaves, whichever point. -/
theorem point_second (t : Fin cfg0.N) (f14) (s : Scr (F := Ideal) c) (h8 : 8 ≤ t.val) (hk : Known m c t.val s) :
    Second m c t (step m c t f14 s) s (ocF m c (t.val + 1)) (tabF m c) := by
  have hN : t.val < 16 := t.isLt
  by_cases e8 : t.val = 8
  · obtain rfl : t = pt8 := Fin.ext e8
    have h := point_C m c pt8 f14 s rfl
    rw [hk.2.1 (by show 1 ≤ 8; omega)] at h
    exact h
  · by_cases e12 : t.val = 12
    · obtain rfl : t = pt12 := Fin.ext e12
      have h := point_D m c pt12 f14 s rfl
      rw [hk.2.2.1 (by show 9 ≤ 12; omega)] at h
      exact h
    · have h := point_E m c t f14 s (by omega) e12
      rw [hk.2.2.1 (by omega), hk.2.2.2 (by omega)] at h
      have e : ocF m c (t.val + 1) = ocF m c t.val := by
        unfold ocF
        by_cases h12 : t.val ≤ 12
        · rw [if_pos h12, if_pos (by omega)]
        · rw [if_neg h12, if_neg (by omega)]
      rw [e]
      exact h

/-- Whatever scratch a point may find is as known. -/
theorem known : ∀ (n : ℕ) (s : Scr (F := Ideal) c), Reach m c n s → Known m c n s := by
  intro n
  induction n with
  | zero => intro s _; exact ⟨fun h => absurd h (by omega), fun h => absurd h (by omega), fun h => absurd h (by omega), fun h => absurd h (by omega)⟩
  | succ n ih =>
    rintro s' ⟨hn, f14, s, hs, rfl⟩
    have hk := ih s hs
    by_cases h8 : n < 8
    · by_cases h0 : n = 0
      · subst h0
        have h := point_A m c ⟨0, hn⟩ f14 s rfl
        refine ⟨fun _ => h.1, fun _ => h.2.trans ?_, fun h => absurd h (by omega), fun h => absurd h (by omega)⟩
        show _ = stF m c 1
        rfl
      · have h := point_B m c ⟨n, hn⟩ f14 s h0 h8
        refine ⟨fun _ => ?_, fun _ => h.2.trans ?_, fun h => absurd h (by omega), fun h => absurd h (by omega)⟩
        · rw [h.1]; exact hk.1 (by omega)
        · rw [hk.2.1 (by omega), Nat.min_eq_left (by omega), Nat.min_eq_left (by omega)]
          show _ = dite _ _ _
          rw [dif_pos hn]
    · have h := point_second m c ⟨n, hn⟩ f14 s (by show 8 ≤ n; omega) hk
      refine ⟨fun _ => ?_, fun _ => ?_, fun _ => h.2.2.2.1, fun _ => h.2.1⟩
      · rw [h.1]; exact (hk.1 (by omega)).after _ _
      · rw [h.2.2.1, hk.2.1 (by omega), Nat.min_eq_right (by omega), Nat.min_eq_right (by omega)]

/-- The output block that a point of the second phase leaves. -/
theorem left_block (t : Fin cfg0.N) (h8 : 8 ≤ t.val) (Y X) (h : (rdat (F := Ideal) m c).after 12 t Y X) :
    ∃ f : S128x14336.Idx → EReal, Fixed f ∧ ∀ (a : Fin 96) (y : Fin 56) (z : Fin 224), X (ix4 0 a y z)
      = outBlock (tabF m c) (image (grid0.coords t)) (fAfter (ocF m c (t.val + 1)) (tile (grid0.coords t)) f) (xB m c t) a y z := by
  obtain ⟨f14, s, hs, rfl⟩ := h
  have hk := known m c t.val s hs
  exact ⟨rdF c s, hk.1 (by omega), (point_second m c t f14 s h8 hk).2.2.2.2⟩

end

end Cert.KernelIdeal.Body

end
-- ==== Proof.Array.lean ====
/- The array that the run leaves: at each index the output block of the point of the second phase whose tile holds it. -/
module

public import proofs.«01_k».proof.Proof.Chain

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen
open Idealize.ShloMosaic.Pipeline
/-- The rows of the tap scratch that no tap writes, the others zero. -/
def fixedF : S128x14336.Idx → EReal := fun j => if (j 0).val = 81 then 1 else 0

theorem dite_rest {p : Prop} [Decidable p] {α : Type} (hp : p) (A : p → α) (x y : α) : dite p A (fun _ => x) = dite p A (fun _ => y) := by
  rw [dif_pos hp, dif_pos hp]

/-- The taps overwrite all the other rows. -/
theorem Fixed.after_eq {f : S128x14336.Idx → EReal} (h : Fixed f) (oc : S9x4x16x256.Idx → EReal) (t : Fin 4) : fAfter oc t f = fAfter oc t fixedF := by
  funext j
  obtain ⟨r, n, rfl⟩ : ∃ (r : Fin 128) (n : Fin 14336), j = ix2 r n := ⟨j 0, j 1, by
    funext d
    match d with
    | ⟨0, _⟩ => rfl
    | ⟨1, _⟩ => rfl⟩
  unfold fAfter
  by_cases hr : r.val < 81
  · have hr' : (ix2 r n 0).val < 81 := hr
    exact dite_rest hr' _ _ _
  · refine (dif_neg hr).trans (Eq.trans ?_ (dif_neg hr).symm)
    show f (ix2 r n) = if r.val = 81 then 1 else 0
    by_cases h1 : r.val = 81
    · rw [if_pos h1]
      obtain rfl : r = 81 := Fin.ext h1
      exact h.1 n
    · rw [if_neg h1]
      exact h.2 r n (by omega)

theorem out_flush : ∀ t : Fin cfg0.N, (cfg0.win 12).flush t = true ↔ 7 ≤ t.val := by decide +kernel
theorem out_index : ∀ t : Fin cfg0.N, 8 ≤ t.val → (cfg0.win 12).index t (0 : Fin 4) = (t.val - 8) / 4 ∧ (cfg0.win 12).index t (1 : Fin 4) = 0
    ∧ (cfg0.win 12).index t (2 : Fin 4) = (t.val - 8) % 4 ∧ (cfg0.win 12).index t (3 : Fin 4) = 0 := by decide +kernel
theorem at_image : ∀ t : Fin cfg0.N, (image (grid0.coords t)).val = t.val % 8 / 4 := by decide +kernel
theorem at_tile : ∀ t : Fin cfg0.N, (tile (grid0.coords t)).val = t.val % 4 := by decide +kernel

section
variable (m : (ℓ : Loc nD τ sig) → Buf (Elt Ideal) ℓ) (c : Dev nD)

/-- The point of the second phase that computes row `Y` of image `b`. -/
def ptOf (b : Fin 2) (Y : Fin 224) : Fin cfg0.N := ⟨8 + 4 * b.val + Y.val / 56, by show _ < 16; omega⟩

/-- The kernel's result at an index. -/
def kOut (b : Fin 2) (a : Fin 96) (Y : Fin 224) (z : Fin 224) : EReal :=
  outBlock (tabF m c) b (fAfter (ocF m c (9 + 4 * b.val)) (⟨Y.val / 56, by omega⟩ : Fin 4) fixedF) (xB m c (ptOf b Y)) a (⟨Y.val % 56, Nat.mod_lt _ (by decide)⟩ : Fin 56) z

/-- The kernel's result as an array. -/
def kArr : S2x96x224x224.Idx → EReal := fun j => kOut m c (j 0) (j 1) (j 2) (j 3)

/-- What a point of the second phase leaves in the output block is the result's block. -/
theorem left_out (t : Fin cfg0.N) (h8 : 8 ≤ t.val) (Y X) (h : (rdat (F := Ideal) m c).after 12 t Y X) (j : S1x96x56x224.Idx) :
    X j = kArr m c (((cfg0.win 12).rect t).emb j) := by
  obtain ⟨f, hf, hX⟩ := left_block m c t h8 Y X h
  have hN : t.val < 16 := t.isLt
  have hj : j = ix4 0 (j 1) (j 2) (j 3) := by
    funext d
    match d with
    | ⟨0, _⟩ => exact Fin.ext (by have : (j 0).val < 1 := (j 0).isLt; show (j 0).val = 0; omega)
    | ⟨1, _⟩ => rfl
    | ⟨2, _⟩ => rfl
    | ⟨3, _⟩ => rfl
  have hj0 : (j 0).val < 1 := (j 0).isLt
  have hj2 : (j 2).val < 56 := (j 2).isLt
  obtain ⟨i0, i1, i2, i3⟩ := out_index t h8
  have e0 : ((((cfg0.win 12).rect t).emb j (0 : Fin 4)).val : ℕ) = (t.val - 8) / 4 := by
    rw [Window.rect_emb_val (cfg0.win 12) t j (0 : Fin 4), i0]; show _ * 1 + (j 0).val = _; omega
  have e1 : ((((cfg0.win 12).rect t).emb j (1 : Fin 4)).val : ℕ) = (j 1).val := by
    rw [Window.rect_emb_val (cfg0.win 12) t j (1 : Fin 4), i1]; show _ * 96 + (j 1).val = _; omega
  have e2 : ((((cfg0.win 12).rect t).emb j (2 : Fin 4)).val : ℕ) = (t.val - 8) % 4 * 56 + (j 2).val := by
    rw [Window.rect_emb_val (cfg0.win 12) t j (2 : Fin 4), i2]; rfl
  have e3 : ((((cfg0.win 12).rect t).emb j (3 : Fin 4)).val : ℕ) = (j 3).val := by
    rw [Window.rect_emb_val (cfg0.win 12) t j (3 : Fin 4), i3]; show _ * 224 + (j 3).val = _; omega
  refine (congrArg X hj).trans ((hX (j 1) (j 2) (j 3)).trans ?_)
  rw [hf.after_eq]
  unfold kArr kOut
  have f1 : (((cfg0.win 12).rect t).emb j (1 : Fin 4)) = j 1 := Fin.ext e1
  have f3 : (((cfg0.win 12).rect t).emb j (3 : Fin 4)) = j 3 := Fin.ext e3
  have fi : image (grid0.coords t) = ((cfg0.win 12).rect t).emb j (0 : Fin 4) := Fin.ext (by rw [at_image, e0]; omega)
  have ft : tile (grid0.coords t) = (⟨((((cfg0.win 12).rect t).emb j (2 : Fin 4)).val : ℕ) / 56, by rw [e2]; omega⟩ : Fin 4) := Fin.ext (by rw [at_tile]; show _ = _ / 56; rw [e2]; omega)
  have fp : ptOf (((cfg0.win 12).rect t).emb j (0 : Fin 4)) (((cfg0.win 12).rect t).emb j (2 : Fin 4)) = t := Fin.ext (by
    show 8 + 4 * ((((cfg0.win 12).rect t).emb j (0 : Fin 4)).val : ℕ) + ((((cfg0.win 12).rect t).emb j (2 : Fin 4)).val : ℕ) / 56 = t.val
    rw [e0, e2]; omega)
  have fy : (⟨((((cfg0.win 12).rect t).emb j (2 : Fin 4)).val : ℕ) % 56, Nat.mod_lt _ (by decide)⟩ : Fin 56) = j 2 := Fin.ext (by
    show ((((cfg0.win 12).rect t).emb j (2 : Fin 4)).val : ℕ) % 56 = (j 2).val
    rw [e2]; omega)
  have fo : ocF m c (t.val + 1) = ocF m c (9 + 4 * ((((cfg0.win 12).rect t).emb j (0 : Fin 4)).val : ℕ)) := by
    rw [e0]
    unfold ocF
    by_cases h : t.val < 12
    · rw [if_pos (by omega), if_pos (by omega)]
    · rw [if_neg (by omega), if_neg (by omega)]
  rw [fi, fo, ft]
  refine Eq.symm ?_
  show outBlock _ _ _ (xB m c (ptOf (((cfg0.win 12).rect t).emb j (0 : Fin 4)) (((cfg0.win 12).rect t).emb j (2 : Fin 4)))) (((cfg0.win 12).rect t).emb j (1 : Fin 4))
    (⟨((((cfg0.win 12).rect t).emb j (2 : Fin 4)).val : ℕ) % 56, Nat.mod_lt _ (by decide)⟩ : Fin 56) (((cfg0.win 12).rect t).emb j (3 : Fin 4)) = _
  rw [fp, fy, f1, f3]

/-- The array at an index in the block of a point of the second phase is the result's value, once the point has passed. -/
theorem arr_late {after : ∀ w u, _} (hL : ∀ w (u : Fin cfg0.N), (cfg0.win w).flush u = true → (rdat (F := Ideal) m c).Leaves w u (after w u)) :
    ∀ (n : Nat) (t : Fin cfg0.N) (i : S2x96x224x224.Idx), 8 ≤ t.val → t.val < n → i ∈ ((cfg0.win 12).blk t).view.set →
      ((rdat (F := Ideal) m c).withAfter after).arrAt 12 n i = kArr m c i := by
  intro n
  induction n with
  | zero => intro t i _ h; exact absurd h (by omega)
  | succ n ih =>
    intro t i h8 hlt hi
    rw [Pipeline.Dat.arrAt_succ_apply]
    by_cases hn : n < cfg0.N
    · rw [dif_pos hn]
      have hf : (cfg0.win 12).flush ⟨n, hn⟩ = true := (out_flush _).2 (by show 7 ≤ n; omega)
      rw [if_pos hf]
      by_cases hm : i ∈ ((cfg0.win 12).blk ⟨n, hn⟩).view.set
      · obtain ⟨y, rfl⟩ := View.exists_emb_of_mem_set _ hm
        obtain ⟨Y, _, hY⟩ := hL 12 ⟨n, hn⟩ hf
        refine (View.write_emb_of_mem _ _ (Finset.mem_univ y)).trans ?_
        exact left_out m c ⟨n, hn⟩ (by show 8 ≤ n; omega) Y _ hY y
      · have hlt' : t.val < n := by
          refine lt_of_le_of_ne (by omega) fun hh => ?_
          subst hh
          exact hm hi
        refine (View.write_of_not_mem _ _ _ (show _ ∉ ((cfg0.win 12).blk ⟨n, hn⟩).view.set from hm)).trans ?_
        exact ih t i h8 hlt' hi
    · rw [dif_neg hn]
      exact ih t i h8 (by have := t.isLt; omega) hi

/-- Every index of the result lies in the block of the point that computes its row. -/
theorem mem_block (t : Fin cfg0.N) (h8 : 8 ≤ t.val) (b : Fin 2) (a : Fin 96) (Y z : Fin 224) (ht : t.val = 8 + 4 * b.val + Y.val / 56) :
    (ix4 b a Y z : S2x96x224x224.Idx) ∈ ((cfg0.win 12).blk t).view.set := by
  obtain ⟨i0, i1, i2, i3⟩ := out_index t h8
  have hb := b.isLt
  have hY := Y.isLt
  let j : S1x96x56x224.Idx := ix4 0 a (⟨Y.val % 56, Nat.mod_lt _ (by decide)⟩ : Fin 56) z
  have e0 : ((((cfg0.win 12).rect t).emb j (0 : Fin 4)).val : ℕ) = b.val := by
    rw [Window.rect_emb_val (cfg0.win 12) t j (0 : Fin 4), i0]; show _ * 1 + 0 = _; omega
  have e1 : ((((cfg0.win 12).rect t).emb j (1 : Fin 4)).val : ℕ) = a.val := by
    rw [Window.rect_emb_val (cfg0.win 12) t j (1 : Fin 4), i1]; show 0 * 96 + a.val = _; omega
  have e2 : ((((cfg0.win 12).rect t).emb j (2 : Fin 4)).val : ℕ) = Y.val := by
    rw [Window.rect_emb_val (cfg0.win 12) t j (2 : Fin 4), i2]; show _ * 56 + Y.val % 56 = _; omega
  have e3 : ((((cfg0.win 12).rect t).emb j (3 : Fin 4)).val : ℕ) = z.val := by
    rw [Window.rect_emb_val (cfg0.win 12) t j (3 : Fin 4), i3]; show 0 * 224 + z.val = _; omega
  have e : ((cfg0.win 12).rect t).emb j = (ix4 b a Y z : S2x96x224x224.Idx) := by
    funext d
    match d with
    | ⟨0, _⟩ => exact Fin.ext e0
    | ⟨1, _⟩ => exact Fin.ext e1
    | ⟨2, _⟩ => exact Fin.ext e2
    | ⟨3, _⟩ => exact Fin.ext e3
  have := ((cfg0.win 12).blk t).view.emb_mem_set j
  exact e ▸ this

/-- After the run the result array holds the kernel's result. -/
theorem arr_eq {r} (h : Pipeline.RDat.FramePost cfg0 (rdat (F := Ideal) m) (V m) r) :
    r.2.mem ((c.tc : Thread nD τ).loc main_v21) = kArr m c := by
  obtain ⟨after, hL, hA⟩ := h.exists_exact c
  refine (hA 12).trans ?_
  funext i
  have hi : i = ix4 (i 0) (i 1) (i 2) (i 3) := by
    funext d
    match d with
    | ⟨0, _⟩ => rfl
    | ⟨1, _⟩ => rfl
    | ⟨2, _⟩ => rfl
    | ⟨3, _⟩ => rfl
  have h8 : 8 ≤ (ptOf (i 0) (i 2)).val := by show 8 ≤ 8 + 4 * (i 0).val + (i 2).val / 56; omega
  rw [hi]
  exact arr_late m c hL _ (ptOf (i 0) (i 2)) _ h8 (ptOf (i 0) (i 2)).isLt (mem_block _ h8 _ _ _ _ rfl)

end

end Cert.KernelIdeal.Body

end
-- ==== Proof.Tables.lean ====
/- The two constant tables of the kernel's host program, decided entry by entry. -/
module

public import proofs.«01_k».proof.Proof.KernelIdealBody

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

/-- The widening table's bits, row by row. -/
theorem tab0 : ∀ i : Fin 14336, lit0 i = if i.val % 256 / 4 = i.val / 256 then 0x3F800000#32 else 0x00000000#32 := by decide +kernel

/-- The region table's bits, row by row. -/
theorem tab1 : ∀ i : Fin 4608, lit1 i = if i.val / 9 / 64 = i.val % 9 then 0x3F800000#32 else 0x00000000#32 := by decide +kernel

end Cert.KernelIdeal.Body

end
-- ==== Proof.Inputs.lean ====
/- What the region finds in each window's array, in terms of the arguments. -/
module

public import proofs.«01_k».proof.Proof.Array
public import proofs.«01_k».proof.Proof.Tables
public import Idealize.ShloMosaic.Lib.StableHlo.RunRead
public import Idealize.ShloMosaic.Lib.IdealHost
public import Idealize.ShloMosaic.Lib.WordCmp

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen
open Idealize.ShloMosaic.Pipeline
section
variable (m : (ℓ : Loc nD τ sig) → Buf (Elt Ideal) ℓ) (c : Dev nD)

/-- The selected codes: a region's own code where its mask is 1, else the ninth row. -/
theorem in_codes (b : Fin 2) (q : Fin 512) :
    V m c main_v6 (ix3 b q 0) = if m ((c.tc : Thread nD τ).loc main_arg3) (ix2 b (⟨q.val / 64, by omega⟩ : Fin 8)) = 1#32
      then m ((c.tc : Thread nD τ).loc main_arg2) (ix3 b (⟨q.val / 64, by omega⟩ : Fin 9) (⟨q.val % 64, by omega⟩ : Fin 64))
      else m ((c.tc : Thread nD τ).loc main_arg2) (ix3 b 8 (⟨q.val % 64, by omega⟩ : Fin 64)) := by
  unfold V
  after_reads_simp
  pointwise []
  refine (show _ = select (broadcastInDim S2x8x64 ![0, 1, 2] bcast_S2x8x1_S2x8x64_0_1_2 (broadcastInDim S2x8x1 ![0, 1] bcast_S2x8_S2x8x1_0_1
      (cmpi CmpIPredicate.eq (m (c, Proc.tc.devRef main_arg3)) (broadcastInDim S2x8 ![] bcast_S_S2x8 (constantI S_ 32 1#32)))))
      (extractStridedSlice S2x8x64 ![0, 0, 0] (m (c, Proc.tc.devRef main_arg2)) slices_S2x9x64_S2x8x64_0_0_0)
      (broadcastInDim S2x8x64 ![0, 1, 2] bcast_S2x1x64_S2x8x64_0_1_2
              (extractStridedSlice S2x1x64 ![0, 8, 0] (m (c, Proc.tc.devRef main_arg2)) slices_S2x9x64_S2x1x64_0_8_0))
      (ix3 b (⟨q.val / 64, by omega⟩ : Fin 8) (⟨q.val % 64, by omega⟩ : Fin 64)) from rfl).trans ?_
  pointwise []
  rw [WordCmp.cmpi_eq_eq]
  by_cases h : m ((c.tc : Thread nD τ).loc main_arg3) (ix2 b (⟨q.val / 64, by omega⟩ : Fin 8)) = 1#32
  · rw [if_pos h, decide_eq_true (show m (c, Proc.tc.devRef main_arg3) (ix2 b (⟨q.val / 64, by omega⟩ : Fin 8)) = 1#32 from h)]; rfl
  · rw [if_neg h, decide_eq_false (show ¬ m (c, Proc.tc.devRef main_arg3) (ix2 b (⟨q.val / 64, by omega⟩ : Fin 8)) = 1#32 from h)]; rfl

/-- The first layer's weights side by side. -/
theorem in_fcbd (j : Fin 64) (q : Fin 512) :
    V m c main_v8 (ix2 j q) = m ((c.tc : Thread nD τ).loc main_arg6) (ix3 (⟨q.val / 64, by omega⟩ : Fin 8) j (⟨q.val % 64, by omega⟩ : Fin 64)) := by
  unfold V
  after_reads_simp
  pointwise []

/-- The first layer's offsets, a zero column last. -/
theorem in_fcbt (j : Fin 64) (k : Fin 9) :
    V m c main_v11 (ix2 j k) = if h : k.val < 8 then m ((c.tc : Thread nD τ).loc main_arg7) (ix2 (⟨k.val, h⟩ : Fin 8) j) else (0 : EReal) := by
  unfold V
  after_reads_simp
  pointwise []

/-- The taps' weights of gamma, a block of 96 rows for each tap. -/
theorem in_wm_gamma (tap : Fin 9) (a : Fin 96) (s : Fin 64) :
    V m c main_v16 (ix2 (⟨96 * tap.val + a.val, by omega⟩ : Fin 1728) s) = m ((c.tc : Thread nD τ).loc main_arg8)
      (ix4 a s (⟨tap.val / 3, by omega⟩ : Fin 3) (⟨tap.val % 3, by omega⟩ : Fin 3)) := by
  unfold V
  after_reads_simp
  pointwise []
  refine (dif_pos (by omega)).trans (congrArg (m (c, Proc.tc.devRef main_arg8)) ?_)
  have e1 : (96 * tap.val + a.val) % 96 = a.val := by omega
  have e2 : (96 * tap.val + a.val) / 288 = tap.val / 3 := by omega
  have e3 : (96 * tap.val + a.val) / 96 % 3 = tap.val % 3 := by omega
  congr 1
  · exact Fin.ext e1
  · exact Fin.ext e2
  · exact Fin.ext e3

/-- The taps' weights of beta, below those of gamma. -/
theorem in_wm_beta (tap : Fin 9) (a : Fin 96) (s : Fin 64) :
    V m c main_v16 (ix2 (⟨864 + 96 * tap.val + a.val, by omega⟩ : Fin 1728) s) = m ((c.tc : Thread nD τ).loc main_arg10)
      (ix4 a s (⟨tap.val / 3, by omega⟩ : Fin 3) (⟨tap.val % 3, by omega⟩ : Fin 3)) := by
  unfold V
  after_reads_simp
  pointwise []
  refine (dif_neg (by omega)).trans (congrArg (m (c, Proc.tc.devRef main_arg10)) ?_)
  have e1 : (864 + 96 * tap.val + a.val - 864) % 96 = a.val := by omega
  have e2 : (864 + 96 * tap.val + a.val - 864) / 288 = tap.val / 3 := by omega
  have e3 : (864 + 96 * tap.val + a.val - 864) / 96 % 3 = tap.val % 3 := by omega
  congr 1
  · exact Fin.ext e1
  · exact Fin.ext e2
  · exact Fin.ext e3

theorem in_bnw (a : Fin 96) : V m c main_v17 (ix2 0 a) = m ((c.tc : Thread nD τ).loc main_arg4) (ix1 a) := by
  unfold V
  after_reads_simp
  pointwise []
theorem in_bnb (a : Fin 96) : V m c main_v18 (ix2 0 a) = m ((c.tc : Thread nD τ).loc main_arg5) (ix1 a) := by
  unfold V
  after_reads_simp
  pointwise []
theorem in_gab (a : Fin 96) : V m c main_v19 (ix2 0 a) = m ((c.tc : Thread nD τ).loc main_arg9) (ix1 a) := by
  unfold V
  after_reads_simp
  pointwise []
theorem in_beb (a : Fin 96) : V m c main_v20 (ix2 0 a) = m ((c.tc : Thread nD τ).loc main_arg11) (ix1 a) := by
  unfold V
  after_reads_simp
  pointwise []

/-- The widening table. -/
theorem in_uh (i : Fin 56) (x : Fin 256) : V m c main_cst (ix2 i x) = if x.val / 4 = i.val then (1 : EReal) else 0 := by
  unfold V
  after_reads_simp
  pointwise []
  refine (congrArg (Ideal.ofBits .f32) (tab0 _)).trans ?_
  have hv : (S56x256.rowMajor (ix2 i x)).val = i.val * 256 + x.val := Shape.rowMajor_val_two _
  have hx := x.isLt
  by_cases h : x.val / 4 = i.val
  · rw [if_pos h, if_pos (by rw [hv]; omega)]; exact Ideal.ofBits_one_f32
  · rw [if_neg h, if_neg (by rw [hv]; omega)]; exact Ideal.ofBits_zero_f32

/-- The table of the regions' columns. -/
theorem in_bm (q : Fin 512) (k : Fin 9) : V m c main_cst_0 (ix2 q k) = if q.val / 64 = k.val then (1 : EReal) else 0 := by
  unfold V
  after_reads_simp
  pointwise []
  refine (congrArg (Ideal.ofBits .f32) (tab1 _)).trans ?_
  have hv : (S512x9.rowMajor (ix2 q k)).val = q.val * 9 + k.val := Shape.rowMajor_val_two _
  have hk : k.val < 9 := k.isLt
  have h1 : (q.val * 9 + k.val) / 9 = q.val := by omega
  have h2 : (q.val * 9 + k.val) % 9 = k.val := by omega
  by_cases h : q.val / 64 = k.val
  · rw [if_pos h, if_pos (by rw [hv, h1, h2]; exact h)]; exact Ideal.ofBits_one_f32
  · rw [if_neg h, if_neg (by rw [hv, h1, h2]; exact h)]; exact Ideal.ofBits_zero_f32

theorem idx_3 : ∀ (t : Fin cfg0.N) (d : Fin 3), (cfg0.win 3).index t d = 0 := by decide +kernel
/-- Window 3's block is its whole array. -/
theorem blk_3 (t : Fin cfg0.N) : (iblk m c 3 t : S2x512x1.Idx → EReal) = V m c main_v6 := by
  funext j
  refine congrArg (V m c main_v6) (show ((cfg0.win 3).rect t).emb j = j from funext fun d => Fin.ext ?_)
  refine (Window.rect_emb_val (cfg0.win 3) t j d).trans ?_
  rw [idx_3 t d, Nat.zero_mul, Nat.zero_add]

theorem idx_4 : ∀ (t : Fin cfg0.N) (d : Fin 2), (cfg0.win 4).index t d = 0 := by decide +kernel
/-- Window 4's block is its whole array. -/
theorem blk_4 (t : Fin cfg0.N) : (iblk m c 4 t : S512x9.Idx → EReal) = V m c main_cst_0 := by
  funext j
  refine congrArg (V m c main_cst_0) (show ((cfg0.win 4).rect t).emb j = j from funext fun d => Fin.ext ?_)
  refine (Window.rect_emb_val (cfg0.win 4) t j d).trans ?_
  rw [idx_4 t d, Nat.zero_mul, Nat.zero_add]

theorem idx_2 : ∀ (t : Fin cfg0.N) (d : Fin 2), (cfg0.win 2).index t d = 0 := by decide +kernel
/-- Window 2's block is its whole array. -/
theorem blk_2 (t : Fin cfg0.N) : (iblk m c 2 t : S56x256.Idx → EReal) = V m c main_cst := by
  funext j
  refine congrArg (V m c main_cst) (show ((cfg0.win 2).rect t).emb j = j from funext fun d => Fin.ext ?_)
  refine (Window.rect_emb_val (cfg0.win 2) t j d).trans ?_
  rw [idx_2 t d, Nat.zero_mul, Nat.zero_add]

theorem idx_5 : ∀ (t : Fin cfg0.N) (d : Fin 2), (cfg0.win 5).index t d = 0 := by decide +kernel
/-- Window 5's block is its whole array. -/
theorem blk_5 (t : Fin cfg0.N) : (iblk m c 5 t : S64x512.Idx → EReal) = V m c main_v8 := by
  funext j
  refine congrArg (V m c main_v8) (show ((cfg0.win 5).rect t).emb j = j from funext fun d => Fin.ext ?_)
  refine (Window.rect_emb_val (cfg0.win 5) t j d).trans ?_
  rw [idx_5 t d, Nat.zero_mul, Nat.zero_add]

theorem idx_6 : ∀ (t : Fin cfg0.N) (d : Fin 2), (cfg0.win 6).index t d = 0 := by decide +kernel
/-- Window 6's block is its whole array. -/
theorem blk_6 (t : Fin cfg0.N) : (iblk m c 6 t : S64x9.Idx → EReal) = V m c main_v11 := by
  funext j
  refine congrArg (V m c main_v11) (show ((cfg0.win 6).rect t).emb j = j from funext fun d => Fin.ext ?_)
  refine (Window.rect_emb_val (cfg0.win 6) t j d).trans ?_
  rw [idx_6 t d, Nat.zero_mul, Nat.zero_add]

theorem idx_7 : ∀ (t : Fin cfg0.N) (d : Fin 2), (cfg0.win 7).index t d = 0 := by decide +kernel
/-- Window 7's block is its whole array. -/
theorem blk_7 (t : Fin cfg0.N) : (iblk m c 7 t : S1728x64.Idx → EReal) = V m c main_v16 := by
  funext j
  refine congrArg (V m c main_v16) (show ((cfg0.win 7).rect t).emb j = j from funext fun d => Fin.ext ?_)
  refine (Window.rect_emb_val (cfg0.win 7) t j d).trans ?_
  rw [idx_7 t d, Nat.zero_mul, Nat.zero_add]

theorem idx_8 : ∀ (t : Fin cfg0.N) (d : Fin 2), (cfg0.win 8).index t d = 0 := by decide +kernel
/-- Window 8's block is its whole array. -/
theorem blk_8 (t : Fin cfg0.N) : (iblk m c 8 t : S1x96.Idx → EReal) = V m c main_v17 := by
  funext j
  refine congrArg (V m c main_v17) (show ((cfg0.win 8).rect t).emb j = j from funext fun d => Fin.ext ?_)
  refine (Window.rect_emb_val (cfg0.win 8) t j d).trans ?_
  rw [idx_8 t d, Nat.zero_mul, Nat.zero_add]

theorem idx_9 : ∀ (t : Fin cfg0.N) (d : Fin 2), (cfg0.win 9).index t d = 0 := by decide +kernel
/-- Window 9's block is its whole array. -/
theorem blk_9 (t : Fin cfg0.N) : (iblk m c 9 t : S1x96.Idx → EReal) = V m c main_v18 := by
  funext j
  refine congrArg (V m c main_v18) (show ((cfg0.win 9).rect t).emb j = j from funext fun d => Fin.ext ?_)
  refine (Window.rect_emb_val (cfg0.win 9) t j d).trans ?_
  rw [idx_9 t d, Nat.zero_mul, Nat.zero_add]

theorem idx_10 : ∀ (t : Fin cfg0.N) (d : Fin 2), (cfg0.win 10).index t d = 0 := by decide +kernel
/-- Window 10's block is its whole array. -/
theorem blk_10 (t : Fin cfg0.N) : (iblk m c 10 t : S1x96.Idx → EReal) = V m c main_v19 := by
  funext j
  refine congrArg (V m c main_v19) (show ((cfg0.win 10).rect t).emb j = j from funext fun d => Fin.ext ?_)
  refine (Window.rect_emb_val (cfg0.win 10) t j d).trans ?_
  rw [idx_10 t d, Nat.zero_mul, Nat.zero_add]

theorem idx_11 : ∀ (t : Fin cfg0.N) (d : Fin 2), (cfg0.win 11).index t d = 0 := by decide +kernel
/-- Window 11's block is its whole array. -/
theorem blk_11 (t : Fin cfg0.N) : (iblk m c 11 t : S1x96.Idx → EReal) = V m c main_v20 := by
  funext j
  refine congrArg (V m c main_v20) (show ((cfg0.win 11).rect t).emb j = j from funext fun d => Fin.ext ?_)
  refine (Window.rect_emb_val (cfg0.win 11) t j d).trans ?_
  rw [idx_11 t d, Nat.zero_mul, Nat.zero_add]

theorem idx_0 : ∀ t : Fin cfg0.N, (cfg0.win 0).index t (0 : Fin 4) = t.val % 8 / 4 ∧ (cfg0.win 0).index t (1 : Fin 4) = 0
    ∧ (cfg0.win 0).index t (2 : Fin 4) = t.val % 4 ∧ (cfg0.win 0).index t (3 : Fin 4) = 0 := by decide +kernel
/-- The image's block at a point: a tile of 56 rows of one image. -/
theorem blk_0 (t : Fin cfg0.N) (a : Fin 96) (y : Fin 56) (z : Fin 224) :
    xB m c t (ix4 0 a y z) = m ((c.tc : Thread nD τ).loc main_arg0) (ix4 (⟨t.val % 8 / 4, by omega⟩ : Fin 2) a (⟨56 * (t.val % 4) + y.val, by omega⟩ : Fin 224) z) := by
  obtain ⟨i0, i1, i2, i3⟩ := idx_0 t
  let j : S1x96x56x224.Idx := ix4 0 a y z
  have e0 : ((((cfg0.win 0).rect t).emb j (0 : Fin 4)).val : ℕ) = t.val % 8 / 4 := by
    rw [Window.rect_emb_val (cfg0.win 0) t j (0 : Fin 4), i0]; show _ * 1 + 0 = _; omega
  have e1 : ((((cfg0.win 0).rect t).emb j (1 : Fin 4)).val : ℕ) = a.val := by
    rw [Window.rect_emb_val (cfg0.win 0) t j (1 : Fin 4), i1]; show 0 * 96 + a.val = _; omega
  have e2 : ((((cfg0.win 0).rect t).emb j (2 : Fin 4)).val : ℕ) = 56 * (t.val % 4) + y.val := by
    rw [Window.rect_emb_val (cfg0.win 0) t j (2 : Fin 4), i2]; show _ * 56 + y.val = _; omega
  have e3 : ((((cfg0.win 0).rect t).emb j (3 : Fin 4)).val : ℕ) = z.val := by
    rw [Window.rect_emb_val (cfg0.win 0) t j (3 : Fin 4), i3]; show 0 * 224 + z.val = _; omega
  refine Eq.trans (b := V m c main_arg0 (((cfg0.win 0).rect t).emb j)) rfl ?_
  rw [V_main_arg0]
  refine congrArg (m ((c.tc : Thread nD τ).loc main_arg0)) ?_
  funext d
  match d with
  | ⟨0, _⟩ => exact Fin.ext e0
  | ⟨1, _⟩ => exact Fin.ext e1
  | ⟨2, _⟩ => exact Fin.ext e2
  | ⟨3, _⟩ => exact Fin.ext e3

theorem idx_1 : ∀ t : Fin cfg0.N, 8 ≤ t.val → (cfg0.win 1).index t (0 : Fin 4) = (t.val - 8) / 4 ∧ (cfg0.win 1).index t (1 : Fin 4) = 0
    ∧ (cfg0.win 1).index t (2 : Fin 4) = 0 ∧ (cfg0.win 1).index t (3 : Fin 4) = 0 := by decide +kernel
/-- The masks' block at a point of the second phase: those of the point's image. -/
theorem blk_1 (t : Fin cfg0.N) (h8 : 8 ≤ t.val) (b : Fin 2) (hb : b.val = (t.val - 8) / 4) (k : Fin 8) (y z : Fin 56) :
    (iblk m c 1 t : S1x8x56x56.Idx → EReal) (ix4 0 k y z) = m ((c.tc : Thread nD τ).loc main_arg1) (ix4 b k y z) := by
  obtain ⟨i0, i1, i2, i3⟩ := idx_1 t h8
  let j : S1x8x56x56.Idx := ix4 0 k y z
  have e0 : ((((cfg0.win 1).rect t).emb j (0 : Fin 4)).val : ℕ) = b.val := by
    rw [Window.rect_emb_val (cfg0.win 1) t j (0 : Fin 4), i0]; show _ * 1 + 0 = _; omega
  have e1 : ((((cfg0.win 1).rect t).emb j (1 : Fin 4)).val : ℕ) = k.val := by
    rw [Window.rect_emb_val (cfg0.win 1) t j (1 : Fin 4), i1]; show 0 * 8 + k.val = _; omega
  have e2 : ((((cfg0.win 1).rect t).emb j (2 : Fin 4)).val : ℕ) = y.val := by
    rw [Window.rect_emb_val (cfg0.win 1) t j (2 : Fin 4), i2]; show 0 * 56 + y.val = _; omega
  have e3 : ((((cfg0.win 1).rect t).emb j (3 : Fin 4)).val : ℕ) = z.val := by
    rw [Window.rect_emb_val (cfg0.win 1) t j (3 : Fin 4), i3]; show 0 * 56 + z.val = _; omega
  refine Eq.trans (b := V m c main_arg1 (((cfg0.win 1).rect t).emb j)) rfl ?_
  rw [V_main_arg1]
  refine congrArg (m ((c.tc : Thread nD τ).loc main_arg1)) ?_
  funext d
  match d with
  | ⟨0, _⟩ => exact Fin.ext e0
  | ⟨1, _⟩ => exact Fin.ext e1
  | ⟨2, _⟩ => exact Fin.ext e2
  | ⟨3, _⟩ => exact Fin.ext e3

end

end Cert.KernelIdeal.Body

end
-- ==== Proof.Spec.lean ====
/- The mathematics both programs compute, over the extended reals: style vectors, the last region that holds a pixel, the nine taps, the batch statistics. -/
module

public import Idealize.ShloMosaic.PureOps.Ideal
public import Idealize.ShloMosaic.Lib.Pointwise

@[expose] public section

set_option maxRecDepth 16384

noncomputable section

namespace Cert.Spec

open Idealize.ShloMosaic Idealize.SL.Sem Idealize.ShloMosaic.TcCoe Idealize.ShloMosaic.Tactic

/-- The arrays' types, at the extended reals. -/
abbrev A1 (n : ℕ) := (⟨1, ![n]⟩ : Shape).Idx → EReal
abbrev A2 (n k : ℕ) := (⟨2, ![n, k]⟩ : Shape).Idx → EReal
abbrev A3 (n k l : ℕ) := (⟨3, ![n, k, l]⟩ : Shape).Idx → EReal
abbrev A4 (n k l r : ℕ) := (⟨4, ![n, k, l, r]⟩ : Shape).Idx → EReal

/-- The style code that region `k` of image `b` uses: its own where its mask code is 1, else the ninth. -/
def code (x2 : A3 2 9 64) (x3 : (⟨2, ![2, 8]⟩ : Shape).Idx → BitVec 32) (b : Fin 2) (k : Fin 8) (s : Fin 64) : EReal :=
  if x3 (ix2 b k) = 1#32 then x2 (ix3 b (⟨k.val, by omega⟩ : Fin 9) s) else x2 (ix3 b 8 s)

/-- The style vector of a region: the layer of the region applied to its code, clipped below at zero; zero for the ninth region. -/
def mu (x2 : A3 2 9 64) (x3 : (⟨2, ![2, 8]⟩ : Shape).Idx → BitVec 32) (x6 : A3 8 64 64) (x7 : A2 8 64) (b : Fin 2) (k : Fin 9) (j : Fin 64) : EReal :=
  if h : k.val < 8 then max (∑ s : Fin 64, code x2 x3 b ⟨k.val, h⟩ s * x6 (ix3 (⟨k.val, h⟩ : Fin 8) j s) + x7 (ix2 (⟨k.val, h⟩ : Fin 8) j)) 0 else 0

/-- The last region whose mask holds a cell; the ninth when none does. -/
def region (x1 : A4 2 8 56 56) (b : Fin 2) (p q : Fin 56) : Fin 9 :=
  if x1 (ix4 b 7 p q) ≠ 0 then 7 else if x1 (ix4 b 6 p q) ≠ 0 then 6 else if x1 (ix4 b 5 p q) ≠ 0 then 5
  else if x1 (ix4 b 4 p q) ≠ 0 then 4 else if x1 (ix4 b 3 p q) ≠ 0 then 3 else if x1 (ix4 b 2 p q) ≠ 0 then 2
  else if x1 (ix4 b 1 p q) ≠ 0 then 1 else if x1 (ix4 b 0 p q) ≠ 0 then 0 else 8

/-- A table of the regions read at a pixel of the image with a border of one pixel: zero on the border. -/
def framed (x1 : A4 2 8 56 56) (g : Fin 9 → EReal) (b : Fin 2) (P Q : ℕ) : EReal :=
  if h : (1 ≤ P ∧ P ≤ 224) ∧ 1 ≤ Q ∧ Q ≤ 224 then g (region x1 b ⟨(P - 1) / 4, by omega⟩ ⟨(Q - 1) / 4, by omega⟩) else 0

/-- One tap of the convolution of the style image by `w`. -/
def tapSum (x1 : A4 2 8 56 56) (x2 : A3 2 9 64) (x3 : (⟨2, ![2, 8]⟩ : Shape).Idx → BitVec 32) (x6 : A3 8 64 64) (x7 : A2 8 64) (w : A4 96 64 3 3)
    (b : Fin 2) (a : Fin 96) (y z : Fin 224) (tap : Fin 9) : EReal :=
  ∑ j : Fin 64, framed x1 (fun k => mu x2 x3 x6 x7 b k j) b (y.val + tap.val / 3) (z.val + tap.val % 3)
    * w (ix4 a j (⟨tap.val / 3, by omega⟩ : Fin 3) (⟨tap.val % 3, by omega⟩ : Fin 3))

/-- A channel's mean: the sum over both images divided by their number of pixels. -/
def mean (x : A4 2 96 224 224) (a : Fin 96) : EReal :=
  Ideal.div (∑ b : Fin 2, ∑ y : Fin 224, ∑ z : Fin 224, x (ix4 b a y z)) (Ideal.ofBits .f32 0x47C40000#32)

/-- A channel's variance about the mean. -/
def variance (x : A4 2 96 224 224) (a : Fin 96) : EReal :=
  Ideal.div (∑ b : Fin 2, ∑ y : Fin 224, ∑ z : Fin 224, (x (ix4 b a y z) - mean x a) * (x (ix4 b a y z) - mean x a)) (Ideal.ofBits .f32 0x47C40000#32)

/-- The result: the normalised image modulated by the two convolutions of the style image. -/
def result (x0 : A4 2 96 224 224) (x1 : A4 2 8 56 56) (x2 : A3 2 9 64) (x3 : (⟨2, ![2, 8]⟩ : Shape).Idx → BitVec 32) (x4 x5 : A1 96)
    (x6 : A3 8 64 64) (x7 : A2 8 64) (x8 : A4 96 64 3 3) (x9 : A1 96) (x10 : A4 96 64 3 3) (x11 : A1 96)
    (b : Fin 2) (a : Fin 96) (y z : Fin 224) : EReal :=
  (Ideal.div (x0 (ix4 b a y z) - mean x0 a) (Ideal.sqrt (variance x0 a + Ideal.ofBits .f32 0x3727C5AC#32)) * x4 (ix1 a) + x5 (ix1 a))
    * (1 + (∑ tap : Fin 9, tapSum x1 x2 x3 x6 x7 x8 b a y z tap + x9 (ix1 a)))
    + (∑ tap : Fin 9, tapSum x1 x2 x3 x6 x7 x10 b a y z tap + x11 (ix1 a))

end Cert.Spec

end
-- ==== Proof.Sums.lean ====
/- Sums in blocks, and tables of the regions read at a pixel. -/
module

public import proofs.«01_k».proof.Proof.Spec

@[expose] public section

set_option maxRecDepth 16384

noncomputable section

namespace Cert.Spec

open Idealize.ShloMosaic Idealize.SL.Sem Idealize.ShloMosaic.TcCoe Idealize.ShloMosaic.Tactic

/-- A sum over `p * n` indices, in blocks of `n`. -/
theorem sum_block {p n N : ℕ} (hN : N = p * n) (f : Fin N → EReal) (hb : ∀ (i : Fin p) (s : Fin n), n * i.val + s.val < N) :
    ∑ q : Fin N, f q = ∑ i : Fin p, ∑ s : Fin n, f ⟨n * i.val + s.val, hb i s⟩ := by
  subst hN
  rw [← Fintype.sum_prod_type' (f := fun (i : Fin p) (s : Fin n) => f ⟨n * i.val + s.val, hb i s⟩), ← Equiv.sum_comp finProdFinEquiv]
  refine Finset.sum_congr rfl fun x _ => congrArg f (Fin.ext ?_)
  show x.2.val + n * x.1.val = n * x.1.val + x.2.val
  omega

/-- A sum over the 128 columns of the table: nine taps of nine regions, column 81, and zeros. -/
theorem sum_columns (f : Fin 128 → EReal) (h0 : ∀ q : Fin 128, 82 ≤ q.val → f q = 0) :
    ∑ q : Fin 128, f q = ∑ t : Fin 9, ∑ k : Fin 9, f (⟨9 * t.val + k.val, by omega⟩ : Fin 128) + f 81 := by
  have h1 : ∑ q : Fin 128, f q = ∑ q : Fin 82, f (⟨q.val, by omega⟩ : Fin 128) + ∑ q : Fin 46, f (⟨82 + q.val, by omega⟩ : Fin 128) :=
    Fin.sum_univ_add (a := 82) (b := 46) f
  have h2 : ∑ q : Fin 46, f (⟨82 + q.val, by omega⟩ : Fin 128) = 0 := Finset.sum_eq_zero fun q _ => h0 _ (by show 82 ≤ 82 + q.val; omega)
  have h3 : ∑ q : Fin 82, f (⟨q.val, by omega⟩ : Fin 128) = ∑ q : Fin 81, f (⟨q.val, by omega⟩ : Fin 128) + f 81 :=
    Fin.sum_univ_castSucc (n := 81) (fun q : Fin 82 => f (⟨q.val, by omega⟩ : Fin 128))
  rw [h1, h2, add_zero, h3, sum_block (p := 9) (n := 9) rfl (fun q : Fin 81 => f (⟨q.val, by omega⟩ : Fin 128)) (fun i s => by omega)]

/-- The sum over both images and all pixels of a channel, by tiles of 56 rows with the columns outermost. -/
theorem sum_tiles (F : Fin 2 → Fin 224 → Fin 224 → EReal) :
    ∑ z : Fin 224, (∑ b : Fin 2, ∑ i : Fin 4, ∑ y : Fin 56, F b (⟨56 * i.val + y.val, by omega⟩ : Fin 224) z)
      = ∑ b : Fin 2, ∑ y : Fin 224, ∑ z : Fin 224, F b y z := by
  rw [Finset.sum_comm]
  refine Finset.sum_congr rfl fun b _ => ?_
  rw [Finset.sum_comm (s := (Finset.univ : Finset (Fin 224))) (t := (Finset.univ : Finset (Fin 224)))]
  refine Finset.sum_congr rfl fun z _ => ?_
  exact (sum_block (p := 4) (n := 56) rfl (fun y => F b y z) (fun i s => by omega)).symm

/-- A one-hot factor picks a term out of a sum over the regions. -/
theorem sum_pick (g : Fin 9 → EReal) (r : Fin 9) : ∑ k : Fin 9, g k * (if k = r then 1 else 0) = g r := by
  simp only [mul_ite, mul_one, mul_zero, Finset.sum_ite_eq', Finset.mem_univ, if_true]

section
variable (x1 : A4 2 8 56 56) (b : Fin 2) (P Q : ℕ)

/-- The indicators of the regions, read at a pixel of the bordered image, pick the table read there. -/
theorem framed_pick (g : Fin 9 → EReal) : ∑ k : Fin 9, g k * framed x1 (fun r => if k = r then 1 else 0) b P Q = framed x1 g b P Q := by
  unfold framed
  by_cases h : (1 ≤ P ∧ P ≤ 224) ∧ 1 ≤ Q ∧ Q ≤ 224
  · simp only [dif_pos h]
    exact sum_pick g _
  · simp only [dif_neg h, mul_zero, Finset.sum_const_zero]

theorem framed_mul (s : EReal) (g : Fin 9 → EReal) : framed x1 (fun k => s * g k) b P Q = s * framed x1 g b P Q := by
  unfold framed
  split_ifs
  · rfl
  · exact (mul_zero s).symm

theorem framed_add (g h : Fin 9 → EReal) : framed x1 (fun k => g k + h k) b P Q = framed x1 g b P Q + framed x1 h b P Q := by
  unfold framed
  split_ifs
  · rfl
  · exact (add_zero 0).symm

theorem framed_sum (g : Fin 64 → Fin 9 → EReal) (w : Fin 64 → EReal) :
    framed x1 (fun k => ∑ j : Fin 64, w j * g j k) b P Q = ∑ j : Fin 64, framed x1 (fun k => g j k) b P Q * w j := by
  unfold framed
  split_ifs
  · exact Finset.sum_congr rfl fun j _ => mul_comm _ _
  · simp only [zero_mul, Finset.sum_const_zero]
end

end Cert.Spec

end
-- ==== Proof.Regions.lean ====
/- The kernel's one-hot tables name the last region that holds a cell. -/
module

public import proofs.«01_k».proof.Proof.Taps
public import proofs.«01_k».proof.Proof.OneHot
public import proofs.«01_k».proof.Proof.Sums

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen

section
variable (x : S1x8x56x56.Idx → EReal) (x1 : Spec.A4 2 8 56 56) (b : Fin 2) (hx : ∀ k p q, x (ix4 0 k p q) = x1 (ix4 b k p q))
include hx

/-- The kernel's indicator of a region is one where the region is the last that holds the cell. -/
theorem sel_region (k : Fin 9) (p q : Fin 56) : selE x k p q = if k = Spec.region x1 b p q then 1 else 0 := by
  have m0 : maskE x 0 p q = if x1 (ix4 b 0 p q) ≠ 0 then 1 else 0 := by unfold maskE; rw [hx]
  have m1 : maskE x 1 p q = if x1 (ix4 b 1 p q) ≠ 0 then 1 else 0 := by unfold maskE; rw [hx]
  have m2 : maskE x 2 p q = if x1 (ix4 b 2 p q) ≠ 0 then 1 else 0 := by unfold maskE; rw [hx]
  have m3 : maskE x 3 p q = if x1 (ix4 b 3 p q) ≠ 0 then 1 else 0 := by unfold maskE; rw [hx]
  have m4 : maskE x 4 p q = if x1 (ix4 b 4 p q) ≠ 0 then 1 else 0 := by unfold maskE; rw [hx]
  have m5 : maskE x 5 p q = if x1 (ix4 b 5 p q) ≠ 0 then 1 else 0 := by unfold maskE; rw [hx]
  have m6 : maskE x 6 p q = if x1 (ix4 b 6 p q) ≠ 0 then 1 else 0 := by unfold maskE; rw [hx]
  have m7 : maskE x 7 p q = if x1 (ix4 b 7 p q) ≠ 0 then 1 else 0 := by unfold maskE; rw [hx]
  have f0 : freeE x 0 p q = 1 := rfl
  have f1 : freeE x 1 p q = freeE x 0 p q * (1 - maskE x 7 p q) := rfl
  have f2 : freeE x 2 p q = freeE x 1 p q * (1 - maskE x 6 p q) := rfl
  have f3 : freeE x 3 p q = freeE x 2 p q * (1 - maskE x 5 p q) := rfl
  have f4 : freeE x 4 p q = freeE x 3 p q * (1 - maskE x 4 p q) := rfl
  have f5 : freeE x 5 p q = freeE x 4 p q * (1 - maskE x 3 p q) := rfl
  have f6 : freeE x 6 p q = freeE x 5 p q * (1 - maskE x 2 p q) := rfl
  have f7 : freeE x 7 p q = freeE x 6 p q * (1 - maskE x 1 p q) := rfl
  have f8 : freeE x 8 p q = freeE x 7 p q * (1 - maskE x 0 p q) := rfl
  have t0 : (1 : EReal) - 1 = 0 := by
    rw [← EReal.coe_one, ← EReal.coe_sub, sub_self]; rfl
  have t1 : (1 : EReal) - 0 = 1 := sub_zero 1
  have one (c : Prop) [Decidable c] (hc : c) : (if c then (1 : EReal) else 0) = 1 := if_pos hc
  have s : selE x k p q = match k with
      | 0 => maskE x 0 p q * freeE x 7 p q
      | 1 => maskE x 1 p q * freeE x 6 p q
      | 2 => maskE x 2 p q * freeE x 5 p q
      | 3 => maskE x 3 p q * freeE x 4 p q
      | 4 => maskE x 4 p q * freeE x 3 p q
      | 5 => maskE x 5 p q * freeE x 2 p q
      | 6 => maskE x 6 p q * freeE x 1 p q
      | 7 => maskE x 7 p q * freeE x 0 p q
      | 8 => freeE x 8 p q := by
    fin_cases k <;> rfl
  rw [s]
  unfold Spec.region
  by_cases h7 : x1 (ix4 b 7 p q) ≠ 0
  · rw [if_pos h7] at m7 ⊢
    rw [m7, t0, mul_zero] at f1
    rw [f1, zero_mul] at f2
    rw [f2, zero_mul] at f3
    rw [f3, zero_mul] at f4
    rw [f4, zero_mul] at f5
    rw [f5, zero_mul] at f6
    rw [f6, zero_mul] at f7
    rw [f7, zero_mul] at f8
    fin_cases k <;> simp [m7, f0, f1, f2, f3, f4, f5, f6, f7, f8]
  rw [if_neg h7] at m7 ⊢
  rw [m7, t1, mul_one, f0] at f1
  by_cases h6 : x1 (ix4 b 6 p q) ≠ 0
  · rw [if_pos h6] at m6 ⊢
    rw [m6, t0, mul_zero] at f2
    rw [f2, zero_mul] at f3
    rw [f3, zero_mul] at f4
    rw [f4, zero_mul] at f5
    rw [f5, zero_mul] at f6
    rw [f6, zero_mul] at f7
    rw [f7, zero_mul] at f8
    fin_cases k <;> simp [m6, m7, f0, f1, f2, f3, f4, f5, f6, f7, f8]
  rw [if_neg h6] at m6 ⊢
  rw [m6, t1, mul_one, f1] at f2
  by_cases h5 : x1 (ix4 b 5 p q) ≠ 0
  · rw [if_pos h5] at m5 ⊢
    rw [m5, t0, mul_zero] at f3
    rw [f3, zero_mul] at f4
    rw [f4, zero_mul] at f5
    rw [f5, zero_mul] at f6
    rw [f6, zero_mul] at f7
    rw [f7, zero_mul] at f8
    fin_cases k <;> simp [m5, m6, m7, f0, f1, f2, f3, f4, f5, f6, f7, f8]
  rw [if_neg h5] at m5 ⊢
  rw [m5, t1, mul_one, f2] at f3
  by_cases h4 : x1 (ix4 b 4 p q) ≠ 0
  · rw [if_pos h4] at m4 ⊢
    rw [m4, t0, mul_zero] at f4
    rw [f4, zero_mul] at f5
    rw [f5, zero_mul] at f6
    rw [f6, zero_mul] at f7
    rw [f7, zero_mul] at f8
    fin_cases k <;> simp [m4, m5, m6, m7, f0, f1, f2, f3, f4, f5, f6, f7, f8]
  rw [if_neg h4] at m4 ⊢
  rw [m4, t1, mul_one, f3] at f4
  by_cases h3 : x1 (ix4 b 3 p q) ≠ 0
  · rw [if_pos h3] at m3 ⊢
    rw [m3, t0, mul_zero] at f5
    rw [f5, zero_mul] at f6
    rw [f6, zero_mul] at f7
    rw [f7, zero_mul] at f8
    fin_cases k <;> simp [m3, m4, m5, m6, m7, f0, f1, f2, f3, f4, f5, f6, f7, f8]
  rw [if_neg h3] at m3 ⊢
  rw [m3, t1, mul_one, f4] at f5
  by_cases h2 : x1 (ix4 b 2 p q) ≠ 0
  · rw [if_pos h2] at m2 ⊢
    rw [m2, t0, mul_zero] at f6
    rw [f6, zero_mul] at f7
    rw [f7, zero_mul] at f8
    fin_cases k <;> simp [m2, m3, m4, m5, m6, m7, f0, f1, f2, f3, f4, f5, f6, f7, f8]
  rw [if_neg h2] at m2 ⊢
  rw [m2, t1, mul_one, f5] at f6
  by_cases h1 : x1 (ix4 b 1 p q) ≠ 0
  · rw [if_pos h1] at m1 ⊢
    rw [m1, t0, mul_zero] at f7
    rw [f7, zero_mul] at f8
    fin_cases k <;> simp [m1, m2, m3, m4, m5, m6, m7, f0, f1, f2, f3, f4, f5, f6, f7, f8]
  rw [if_neg h1] at m1 ⊢
  rw [m1, t1, mul_one, f6] at f7
  by_cases h0 : x1 (ix4 b 0 p q) ≠ 0
  · rw [if_pos h0] at m0 ⊢
    rw [m0, t0, mul_zero] at f8
    fin_cases k <;> simp [m0, m1, m2, m3, m4, m5, m6, m7, f0, f1, f2, f3, f4, f5, f6, f7, f8]
  rw [if_neg h0] at m0 ⊢
  rw [m0, t1, mul_one, f7] at f8
  fin_cases k <;> simp [m0, m1, m2, m3, m4, m5, m6, m7, f0, f1, f2, f3, f4, f5, f6, f7, f8]

/-- The kept one-hot rows: the indicator of the region of a cell, zero outside the image. -/
theorem hot_region (u : S56x256.Idx → EReal) (hu : ∀ i X, u (ix2 i X) = if X.val / 4 = i.val then 1 else 0) (k : Fin 9) (r : ℕ) (X : Fin 256) :
    hot x u k r X = if h : (1 ≤ r ∧ r ≤ 56) ∧ X.val < 224 then
      (if k = Spec.region x1 b (⟨r - 1, by omega⟩ : Fin 56) (⟨X.val / 4, by omega⟩ : Fin 56) then 1 else 0) else 0 := by
  unfold hot
  by_cases hr : 1 ≤ r ∧ r ≤ 56
  · rw [dif_pos hr]
    by_cases hX : X.val < 224
    · rw [dif_pos ⟨hr, hX⟩, Finset.sum_eq_single (⟨X.val / 4, by omega⟩ : Fin 56)]
      · rw [hu, if_pos rfl, mul_one, sel_region x x1 b hx]
      · intro q _ hq
        rw [hu, if_neg fun e => hq (Fin.ext e.symm), mul_zero]
      · intro h
        exact absurd (Finset.mem_univ _) h
    · rw [dif_neg fun h => hX h.2]
      refine Finset.sum_eq_zero fun q _ => ?_
      have hq := q.isLt
      rw [hu, if_neg (by omega), mul_zero]
  · rw [dif_neg hr, dif_neg fun h => hr h.1]

/-- The tap matrix at tap `n / 9`, region `n % 9` and a pixel of a tile: the indicator of the region, read in the bordered image. -/
theorem tap_region (u : S56x256.Idx → EReal) (hu : ∀ i X, u (ix2 i X) = if X.val / 4 = i.val then 1 else 0) (t : Fin 4) (tap k : Fin 9)
    (y : Fin 56) (z : Fin 224) (f : S128x14336.Idx → EReal) :
    fAfter (ocG x u) t f (ix2 (⟨9 * tap.val + k.val, by omega⟩ : Fin 128) (⟨y.val * 256 + z.val, by omega⟩ : Fin 14336))
      = Spec.framed x1 (fun r => if k = r then 1 else 0) b (56 * t.val + y.val + tap.val / 3) (z.val + tap.val % 3) := by
  have hk := k.isLt
  have ht := tap.isLt
  have h4 := t.isLt
  have hy := y.isLt
  have hz := z.isLt
  have d1 : (9 * tap.val + k.val) / 9 = tap.val := by omega
  have d2 : (9 * tap.val + k.val) % 9 = k.val := by omega
  unfold fAfter
  refine (dif_pos (show 9 * tap.val + k.val < 81 by omega)).trans ?_
  let N := tapPos ((9 * tap.val + k.val) / 9) (y.val * 256 + z.val)
  have hN : N = 767 + 256 * (tap.val / 3) + tap.val % 3 + (y.val * 256 + z.val) := by
    show tapPos _ _ = _
    rw [d1]; rfl
  have hN16 : N / 1024 < 16 := by omega
  show hot x u (⟨(9 * tap.val + k.val) % 9, _⟩ : Fin 9) (14 * t.val + N / 1024) (⟨N % 256, _⟩ : Fin 256) = _
  rw [hot_region x x1 b hx u hu]
  unfold Spec.framed
  have e2 : (⟨(9 * tap.val + k.val) % 9, Nat.mod_lt _ (by decide)⟩ : Fin 9) = k := Fin.ext d2
  by_cases h : (1 ≤ 56 * t.val + y.val + tap.val / 3 ∧ 56 * t.val + y.val + tap.val / 3 ≤ 224) ∧ 1 ≤ z.val + tap.val % 3 ∧ z.val + tap.val % 3 ≤ 224
  · have c1 : N / 256 = y.val + tap.val / 3 + 3 := by omega
    have c2 : N % 256 = z.val + tap.val % 3 - 1 := by omega
    have c3 : 14 * t.val + N / 1024 - 1 = (56 * t.val + y.val + tap.val / 3 - 1) / 4 := by omega
    rw [dif_pos h, dif_pos (show (1 ≤ 14 * t.val + N / 1024 ∧ 14 * t.val + N / 1024 ≤ 56) ∧ N % 256 < 224 by omega)]
    simp only [c2, c3, d2]
  · rw [dif_neg h, dif_neg (show ¬ ((1 ≤ 14 * t.val + N / 1024 ∧ 14 * t.val + N / 1024 ≤ 56) ∧ N % 256 < 224) by omega)]
end

end Cert.KernelIdeal.Body

end
-- ==== Proof.Value.lean ====
/- The kernel's result at an index, in terms of the arguments and the mathematics of Spec. -/
module

public import proofs.«01_k».proof.Proof.Inputs
public import proofs.«01_k».proof.Proof.Regions

@[expose] public section

set_option maxRecDepth 16384

noncomputable section

namespace Cert.KernelIdeal.Body

open Idealize.ShloMosaic Idealize.SL.Sem Idealize.ShloMosaic.TcCoe Idealize.ShloMosaic.Tactic
open Cert.KernelIdeal Cert.KernelIdeal.Gen
open Idealize.ShloMosaic.Pipeline
section
variable (m : (ℓ : Loc nD τ sig) → Buf (Elt Ideal) ℓ) (c : Dev nD)

/-- The arguments' contents. -/
abbrev ar0 : Spec.A4 2 96 224 224 := m ((c.tc : Thread nD τ).loc main_arg0)
abbrev ar1 : Spec.A4 2 8 56 56 := m ((c.tc : Thread nD τ).loc main_arg1)
abbrev ar2 : Spec.A3 2 9 64 := m ((c.tc : Thread nD τ).loc main_arg2)
abbrev ar3 : (⟨2, ![2, 8]⟩ : Shape).Idx → BitVec 32 := m ((c.tc : Thread nD τ).loc main_arg3)
abbrev ar4 : Spec.A1 96 := m ((c.tc : Thread nD τ).loc main_arg4)
abbrev ar5 : Spec.A1 96 := m ((c.tc : Thread nD τ).loc main_arg5)
abbrev ar6 : Spec.A3 8 64 64 := m ((c.tc : Thread nD τ).loc main_arg6)
abbrev ar7 : Spec.A2 8 64 := m ((c.tc : Thread nD τ).loc main_arg7)
abbrev ar8 : Spec.A4 96 64 3 3 := m ((c.tc : Thread nD τ).loc main_arg8)
abbrev ar9 : Spec.A1 96 := m ((c.tc : Thread nD τ).loc main_arg9)
abbrev ar10 : Spec.A4 96 64 3 3 := m ((c.tc : Thread nD τ).loc main_arg10)
abbrev ar11 : Spec.A1 96 := m ((c.tc : Thread nD τ).loc main_arg11)

/-- What one point of the first phase adds to the running sums. -/
theorem st_step (n : ℕ) (hn : n < 8) (k : Fin 2) (a : Fin 96) (z : Fin 224) :
    stF m c (n + 1) (ix3 k a z) = stF m c n (ix3 k a z) + ∑ y : Fin 56, (fun (b : Fin 2) (Y z : Fin 224) =>
      if k.val = 0 then ar0 m c (ix4 b a Y z) else ar0 m c (ix4 b a Y z) * ar0 m c (ix4 b a Y z))
        (⟨n / 4, by omega⟩ : Fin 2) (⟨56 * (n % 4) + y.val, by omega⟩ : Fin 224) z := by
  have hN : n < cfg0.N := by show n < 16; omega
  have e : stF m c (n + 1) = addG (xB m c ⟨n, hN⟩) (stF m c n) := dif_pos hN
  rw [e]
  refine congrArg (stF m c n (ix3 k a z) + ·) ?_
  have hb (y : Fin 56) : xB m c ⟨n, hN⟩ (ix4 0 a y z) = ar0 m c (ix4 (⟨n / 4, by omega⟩ : Fin 2) a (⟨56 * (n % 4) + y.val, by omega⟩ : Fin 224) z) := by
    refine (blk_0 m c ⟨n, hN⟩ a y z).trans ?_
    have h8 : n % 8 / 4 = n / 4 := by omega
    simp only [h8]
  show (if k.val = 0 then ∑ y : Fin 56, xB m c ⟨n, hN⟩ (ix4 0 a y z) else ∑ y : Fin 56, xB m c ⟨n, hN⟩ (ix4 0 a y z) * xB m c ⟨n, hN⟩ (ix4 0 a y z)) = _
  by_cases h : k.val = 0
  · simp only [if_pos h, hb]
  · simp only [if_neg h, hb]

/-- The running sums after the first phase, added over the columns: the sums over both images and all pixels. -/
theorem st_total (k : Fin 2) (a : Fin 96) : ∑ z : Fin 224, stF m c 8 (ix3 k a z) = ∑ b : Fin 2, ∑ y : Fin 224, ∑ z : Fin 224,
    (if k.val = 0 then ar0 m c (ix4 b a y z) else ar0 m c (ix4 b a y z) * ar0 m c (ix4 b a y z)) := by
  refine Eq.trans (Finset.sum_congr rfl fun z _ => ?_) (Spec.sum_tiles (fun b Y z =>
    if k.val = 0 then ar0 m c (ix4 b a Y z) else ar0 m c (ix4 b a Y z) * ar0 m c (ix4 b a Y z)))
  have e0 : stF m c 0 (ix3 k a z) = 0 := rfl
  rw [st_step m c 7 (by decide), st_step m c 6 (by decide), st_step m c 5 (by decide), st_step m c 4 (by decide), st_step m c 3 (by decide),
    st_step m c 2 (by decide), st_step m c 1 (by decide), st_step m c 0 (by decide), e0, zero_add, Fin.sum_univ_two, Fin.sum_univ_four, Fin.sum_univ_four]
  simp only [← add_assoc]
  rfl

/-- The kernel's mean of the values (`k = 0`) and of the squares (`k = 1`). -/
theorem mean_kernel (a : Fin 96) : meanG (stF m c 8) 0 a = Spec.mean (ar0 m c) a := by
  unfold meanG
  rw [st_total]
  rfl
theorem square_kernel (a : Fin 96) : meanG (stF m c 8) 1 a
    = Ideal.div (∑ b : Fin 2, ∑ y : Fin 224, ∑ z : Fin 224, ar0 m c (ix4 b a y z) * ar0 m c (ix4 b a y z)) (Ideal.ofBits .f32 0x47C40000#32) := by
  unfold meanG
  rw [st_total]
  rfl

/-- The factor and the offset of a channel, from the arguments. -/
def scaleK (a : Fin 96) : EReal :=
  Ideal.div (ar4 m c (ix1 a)) (Ideal.sqrt (Ideal.div (∑ b : Fin 2, ∑ y : Fin 224, ∑ z : Fin 224, ar0 m c (ix4 b a y z) * ar0 m c (ix4 b a y z))
    (Ideal.ofBits .f32 0x47C40000#32) - Spec.mean (ar0 m c) a * Spec.mean (ar0 m c) a + Ideal.ofBits .f32 0x3727C5AC#32))
def shiftK (a : Fin 96) : EReal := ar5 m c (ix1 a) - Spec.mean (ar0 m c) a * scaleK m c a

theorem scale_kernel (a : Fin 96) : scaleG (stF m c 8) (V m c main_v17) a = scaleK m c a := by
  unfold scaleG scaleK
  rw [mean_kernel, square_kernel, in_bnw]
theorem shift_kernel (a : Fin 96) : shiftG (stF m c 8) (V m c main_v17) (V m c main_v18) a = shiftK m c a := by
  unfold shiftG shiftK
  rw [mean_kernel, scale_kernel, in_bnb]

/-- The region's arrays that the hidden vectors read. -/
abbrev vC : S2x512x1.Idx → EReal := V m c main_v6
abbrev vB : S512x9.Idx → EReal := V m c main_cst_0
abbrev vF : S64x512.Idx → EReal := V m c main_v8
abbrev vT : S64x9.Idx → EReal := V m c main_v11

/-- The kernel's hidden vectors are the style vectors of the regions. -/
theorem hidden (b : Fin 2) (k : Fin 9) (j : Fin 64) :
    max (∑ y : Fin 512, vF m c (ix2 j y) * (vC m c (ix3 b y 0) * vB m c (ix2 y k)) + vT m c (ix2 j k)) (0 : EReal)
      = Spec.mu (ar2 m c) (ar3 m c) (ar6 m c) (ar7 m c) b k j := by
  have hs : ∑ y : Fin 512, vF m c (ix2 j y) * (vC m c (ix3 b y 0) * vB m c (ix2 y k))
      = ∑ i : Fin 8, ∑ s : Fin 64, (ar6 m c (ix3 i j s) * (Spec.code (ar2 m c) (ar3 m c) b i s * (if i.val = k.val then (1 : EReal) else 0))) := by
    refine (Spec.sum_block (p := 8) (n := 64) rfl _ (fun i s => by omega)).trans (Finset.sum_congr rfl fun i _ => Finset.sum_congr rfl fun s _ => ?_)
    have hs := s.isLt
    have d1 : (64 * i.val + s.val) / 64 = i.val := by omega
    have d2 : (64 * i.val + s.val) % 64 = s.val := by omega
    refine (congrArg₂ (fun p q : EReal => p * q) (in_fcbd m c j _) (congrArg₂ (fun p q : EReal => p * q) (in_codes m c b _) (in_bm m c _ k))).trans ?_
    unfold Spec.code
    simp only [d1, d2]
  have ht : vT m c (ix2 j k) = if h : k.val < 8 then ar7 m c (ix2 (⟨k.val, h⟩ : Fin 8) j) else (0 : EReal) := in_fcbt m c j k
  rw [hs, ht]
  unfold Spec.mu
  by_cases h : k.val < 8
  · rw [dif_pos h, dif_pos h, Finset.sum_eq_single (⟨k.val, h⟩ : Fin 8)]
    · refine congrArg (fun e => max (e + _) 0) (Finset.sum_congr rfl fun s _ => ?_)
      rw [if_pos rfl, mul_one, mul_comm]
    · intro i _ hi
      refine Finset.sum_eq_zero fun s _ => ?_
      rw [if_neg fun e => hi (Fin.ext e), mul_zero, mul_zero]
    · intro hh
      exact absurd (Finset.mem_univ _) hh
  · rw [dif_neg h, dif_neg h]
    have hz : ∑ i : Fin 8, ∑ s : Fin 64, (ar6 m c (ix3 i j s) * (Spec.code (ar2 m c) (ar3 m c) b i s * (if i.val = k.val then (1 : EReal) else 0))) = 0 := by
      refine Finset.sum_eq_zero fun i _ => Finset.sum_eq_zero fun s _ => ?_
      have hi := i.isLt
      rw [if_neg (by omega), mul_zero, mul_zero]
    rw [hz, add_zero, max_self]

/-- The kernel's weights times the style vectors. -/
abbrev gtV : Fin 2 → Fin 1728 → Fin 9 → EReal := gtG (V m c main_v6) (V m c main_cst_0) (V m c main_v8) (V m c main_v11) (V m c main_v16)

theorem gt_gamma (b : Fin 2) (tap : Fin 9) (a : Fin 96) (k : Fin 9) : gtV m c b (⟨96 * tap.val + a.val, by omega⟩ : Fin 1728) k
    = ∑ j : Fin 64, ar8 m c (ix4 a j (⟨tap.val / 3, by omega⟩ : Fin 3) (⟨tap.val % 3, by omega⟩ : Fin 3)) * Spec.mu (ar2 m c) (ar3 m c) (ar6 m c) (ar7 m c) b k j := by
  refine Finset.sum_congr rfl fun j _ => ?_
  exact congrArg₂ (· * ·) (in_wm_gamma m c tap a j) (hidden m c b k j)
theorem gt_beta (b : Fin 2) (tap : Fin 9) (a : Fin 96) (k : Fin 9) : gtV m c b (⟨864 + 96 * tap.val + a.val, by omega⟩ : Fin 1728) k
    = ∑ j : Fin 64, ar10 m c (ix4 a j (⟨tap.val / 3, by omega⟩ : Fin 3) (⟨tap.val % 3, by omega⟩ : Fin 3)) * Spec.mu (ar2 m c) (ar3 m c) (ar6 m c) (ar7 m c) b k j := by
  refine Finset.sum_congr rfl fun j _ => ?_
  exact congrArg₂ (· * ·) (in_wm_beta m c tap a j) (hidden m c b k j)

/-- A tap of the two convolutions. -/
abbrev tg (b : Fin 2) (a : Fin 96) (y z : Fin 224) (tap : Fin 9) : EReal := Spec.tapSum (ar1 m c) (ar2 m c) (ar3 m c) (ar6 m c) (ar7 m c) (ar8 m c) b a y z tap
abbrev tb (b : Fin 2) (a : Fin 96) (y z : Fin 224) (tap : Fin 9) : EReal := Spec.tapSum (ar1 m c) (ar2 m c) (ar3 m c) (ar6 m c) (ar7 m c) (ar10 m c) b a y z tap

theorem framed_gamma (b : Fin 2) (a : Fin 96) (y z : Fin 224) (tap : Fin 9) :
    Spec.framed (ar1 m c) (gtV m c b (⟨96 * tap.val + a.val, by omega⟩ : Fin 1728)) b (y.val + tap.val / 3) (z.val + tap.val % 3) = tg m c b a y z tap := by
  refine (congrArg (fun g => Spec.framed (ar1 m c) g b _ _) (funext fun k => gt_gamma m c b tap a k)).trans ?_
  exact Spec.framed_sum _ _ _ _ (fun j k => Spec.mu (ar2 m c) (ar3 m c) (ar6 m c) (ar7 m c) b k j) _
theorem framed_beta (b : Fin 2) (a : Fin 96) (y z : Fin 224) (tap : Fin 9) :
    Spec.framed (ar1 m c) (gtV m c b (⟨864 + 96 * tap.val + a.val, by omega⟩ : Fin 1728)) b (y.val + tap.val / 3) (z.val + tap.val % 3) = tb m c b a y z tap := by
  refine (congrArg (fun g => Spec.framed (ar1 m c) g b _ _) (funext fun k => gt_beta m c b tap a k)).trans ?_
  exact Spec.framed_sum _ _ _ _ (fun j k => Spec.mu (ar2 m c) (ar3 m c) (ar6 m c) (ar7 m c) b k j) _

/-- The table of the second phase, from the arguments. -/
theorem tab_eq : tabF m c = gcatG (scaleK m c) (shiftK m c) (fun a => scaleK m c a * (1 + ar9 m c (ix1 a)))
    (fun a => shiftK m c a * (1 + ar9 m c (ix1 a)) + ar11 m c (ix1 a)) (gtV m c) := by
  unfold tabF tabG
  rw [blk_3, blk_4, blk_5, blk_6, blk_7, blk_8, blk_9, blk_10, blk_11]
  rw [show scaleG (stF m c 8) (V m c main_v17) = scaleK m c from funext fun a => scale_kernel m c a,
    show shiftG (stF m c 8) (V m c main_v17) (V m c main_v18) = shiftK m c from funext fun a => shift_kernel m c a]
  exact congrArg₂ (fun p q => gcatG (scaleK m c) (shiftK m c) p q (gtV m c))
    (funext fun a => congrArg (fun e : EReal => scaleK m c a * (1 + e)) (in_gab m c a))
    (funext fun a => congrArg₂ (fun e f : EReal => shiftK m c a * (1 + e) + f) (in_gab m c a) (in_beb m c a))

theorem u_eq (t : Fin cfg0.N) (i : Fin 56) (X : Fin 256) : (iblk m c 2 t : S56x256.Idx → EReal) (ix2 i X) = if X.val / 4 = i.val then (1 : EReal) else 0 := by
  rw [blk_2]
  exact in_uh m c i X

/-- The tap matrix at a pixel of the image: the indicators of the regions in the bordered image. -/
theorem taps_at (b : Fin 2) (Y z : Fin 224) (tap k : Fin 9) :
    fAfter (ocF m c (9 + 4 * b.val)) (⟨Y.val / 56, by omega⟩ : Fin 4) fixedF
        (ix2 (⟨9 * tap.val + k.val, by omega⟩ : Fin 128) (⟨(⟨Y.val % 56, Nat.mod_lt _ (by decide)⟩ : Fin 56).val * 256 + z.val, by
          have : Y.val % 56 < 56 := Nat.mod_lt _ (by decide)
          show Y.val % 56 * 256 + z.val < 14336
          omega⟩ : Fin 14336))
      = Spec.framed (ar1 m c) (fun r => if k = r then 1 else 0) b (Y.val + tap.val / 3) (z.val + tap.val % 3) := by
  have hY : 56 * (Y.val / 56) + Y.val % 56 = Y.val := by omega
  have h0 (b' : Fin 2) (hb : b'.val = 0) (k p q) : (iblk m c 1 pt8 : S1x8x56x56.Idx → EReal) (ix4 0 k p q) = ar1 m c (ix4 b' k p q) :=
    blk_1 m c pt8 (by decide) b' (hb.trans (by decide)) k p q
  have h1 (b' : Fin 2) (hb : b'.val = 1) (k p q) : (iblk m c 1 pt12 : S1x8x56x56.Idx → EReal) (ix4 0 k p q) = ar1 m c (ix4 b' k p q) :=
    blk_1 m c pt12 (by decide) b' (hb.trans (by decide)) k p q
  have hb2 := b.isLt
  by_cases hb : b.val = 0
  · have e : ocF m c (9 + 4 * b.val) = ocG (iblk m c 1 pt8) (iblk m c 2 pt8) := if_pos (by omega)
    rw [e]
    refine (tap_region _ (ar1 m c) b (h0 b hb) _ (u_eq m c pt8) _ tap k _ z fixedF).trans ?_
    show Spec.framed (ar1 m c) _ b (56 * (Y.val / 56) + Y.val % 56 + tap.val / 3) _ = _
    rw [hY]
  · have e : ocF m c (9 + 4 * b.val) = ocG (iblk m c 1 pt12) (iblk m c 2 pt12) := if_neg (by omega)
    rw [e]
    refine (tap_region _ (ar1 m c) b (h1 b (by omega)) _ (u_eq m c pt12) _ tap k _ z fixedF).trans ?_
    show Spec.framed (ar1 m c) _ b (56 * (Y.val / 56) + Y.val % 56 + tap.val / 3) _ = _
    rw [hY]

theorem taps_one (b : Fin 2) (Y : Fin 224) (n : Fin 14336) : fAfter (ocF m c (9 + 4 * b.val)) (⟨Y.val / 56, by omega⟩ : Fin 4) fixedF (ix2 (81 : Fin 128) n) = 1 :=
  (dif_neg (show ¬ (81 : ℕ) < 81 by omega)).trans (if_pos rfl)

theorem tab_zero (b : Fin 2) (r : Fin 192) (q : Fin 128) (hq : 82 ≤ q.val) : tabF m c (ix3 b r q) = 0 := by
  rw [tab_eq]
  exact gVal_zero _ _ _ _ _ b r q hq

/-- The kernel's result at an index, from the arguments. -/
theorem kernel_out (b : Fin 2) (a : Fin 96) (Y z : Fin 224) : kOut m c b a Y z
    = ar0 m c (ix4 b a Y z) * (∑ tap : Fin 9, scaleK m c a * tg m c b a Y z tap + scaleK m c a * (1 + ar9 m c (ix1 a)))
      + (∑ tap : Fin 9, (shiftK m c a * tg m c b a Y z tap + tb m c b a Y z tap) + (shiftK m c a * (1 + ar9 m c (ix1 a)) + ar11 m c (ix1 a))) := by
  have hx : xB m c (ptOf b Y) (ix4 0 a (⟨Y.val % 56, Nat.mod_lt _ (by decide)⟩ : Fin 56) z) = ar0 m c (ix4 b a Y z) := by
    refine (blk_0 m c (ptOf b Y) a _ z).trans ?_
    have hb := b.isLt
    have hY := Y.isLt
    have d1 : (8 + 4 * b.val + Y.val / 56) % 8 / 4 = b.val := by omega
    have d2 : 56 * ((8 + 4 * b.val + Y.val / 56) % 4) + Y.val % 56 = Y.val := by omega
    show ar0 m c (ix4 (⟨(8 + 4 * b.val + Y.val / 56) % 8 / 4, _⟩ : Fin 2) a (⟨56 * ((8 + 4 * b.val + Y.val / 56) % 4) + Y.val % 56, _⟩ : Fin 224) z) = _
    simp only [d1, d2]
  have up (q : Fin 14336) (hq : ∀ tap k : Fin 9, fAfter (ocF m c (9 + 4 * b.val)) (⟨Y.val / 56, by omega⟩ : Fin 4) fixedF (ix2 (⟨9 * tap.val + k.val, by omega⟩ : Fin 128) q)
        = Spec.framed (ar1 m c) (fun r => if k = r then 1 else 0) b (Y.val + tap.val / 3) (z.val + tap.val % 3)) :
      ∑ n : Fin 128, tabF m c (ix3 b (⟨a.val, by omega⟩ : Fin 192) n) * fAfter (ocF m c (9 + 4 * b.val)) (⟨Y.val / 56, by omega⟩ : Fin 4) fixedF (ix2 n q)
        = ∑ tap : Fin 9, scaleK m c a * tg m c b a Y z tap + scaleK m c a * (1 + ar9 m c (ix1 a)) := by
    rw [Spec.sum_columns _ fun n hn => by rw [tab_zero m c b _ n hn, zero_mul], taps_one, mul_one]
    refine congrArg₂ (· + ·) (Finset.sum_congr rfl fun tap _ => ?_) ?_
    · simp only [hq]
      have e (k : Fin 9) : tabF m c (ix3 b (⟨a.val, by omega⟩ : Fin 192) (⟨9 * tap.val + k.val, by omega⟩ : Fin 128))
          = scaleK m c a * gtV m c b (⟨96 * tap.val + a.val, by omega⟩ : Fin 1728) k := by
        rw [tab_eq]
        exact gVal_up _ _ _ _ _ b a tap.val tap.isLt k _ _ rfl rfl
      simp only [e]
      rw [Spec.framed_pick (ar1 m c) b _ _ (fun k => scaleK m c a * gtV m c b (⟨96 * tap.val + a.val, by omega⟩ : Fin 1728) k), Spec.framed_mul, framed_gamma]
    · rw [tab_eq]
      exact gVal_ca _ _ _ _ _ b a _ _ rfl rfl
  have dn (q : Fin 14336) (hq : ∀ tap k : Fin 9, fAfter (ocF m c (9 + 4 * b.val)) (⟨Y.val / 56, by omega⟩ : Fin 4) fixedF (ix2 (⟨9 * tap.val + k.val, by omega⟩ : Fin 128) q)
        = Spec.framed (ar1 m c) (fun r => if k = r then 1 else 0) b (Y.val + tap.val / 3) (z.val + tap.val % 3)) :
      ∑ n : Fin 128, tabF m c (ix3 b (⟨96 + a.val, by omega⟩ : Fin 192) n) * fAfter (ocF m c (9 + 4 * b.val)) (⟨Y.val / 56, by omega⟩ : Fin 4) fixedF (ix2 n q)
        = ∑ tap : Fin 9, (shiftK m c a * tg m c b a Y z tap + tb m c b a Y z tap) + (shiftK m c a * (1 + ar9 m c (ix1 a)) + ar11 m c (ix1 a)) := by
    rw [Spec.sum_columns _ fun n hn => by rw [tab_zero m c b _ n hn, zero_mul], taps_one, mul_one]
    refine congrArg₂ (· + ·) (Finset.sum_congr rfl fun tap _ => ?_) ?_
    · simp only [hq]
      have e (k : Fin 9) : tabF m c (ix3 b (⟨96 + a.val, by omega⟩ : Fin 192) (⟨9 * tap.val + k.val, by omega⟩ : Fin 128))
          = shiftK m c a * gtV m c b (⟨96 * tap.val + a.val, by omega⟩ : Fin 1728) k + gtV m c b (⟨864 + 96 * tap.val + a.val, by omega⟩ : Fin 1728) k := by
        rw [tab_eq]
        exact gVal_dn _ _ _ _ _ b a tap.val tap.isLt k _ _ rfl rfl
      simp only [e]
      rw [Spec.framed_pick (ar1 m c) b _ _ (fun k => shiftK m c a * gtV m c b (⟨96 * tap.val + a.val, by omega⟩ : Fin 1728) k + gtV m c b (⟨864 + 96 * tap.val + a.val, by omega⟩ : Fin 1728) k),
        Spec.framed_add, Spec.framed_mul, framed_gamma, framed_beta]
    · rw [tab_eq]
      exact gVal_cb _ _ _ _ _ b a _ _ rfl rfl
  unfold kOut outBlock
  rw [hx, up _ fun tap k => taps_at m c b Y z tap k, dn _ fun tap k => taps_at m c b Y z tap k]

end

end Cert.KernelIdeal.Body

end
-- ==== Proof.Reference.lean ====
/- The reference program read at an index: it is the mathematics of Spec. -/
module

public import proofs.«01_k».proof.Proof.Gen.ReferenceIdeal.Read
public import proofs.«01_k».proof.Proof.Spec
public import Idealize.ShloMosaic.Lib.Pointwise
public import Idealize.ShloMosaic.Lib.IdealHost
public import Idealize.ShloMosaic.Lib.KernelVsHost
public import Idealize.ShloMosaic.Lib.WordCmp

@[expose] public section

set_option maxRecDepth 16384

noncomputable section

namespace Cert.ReferenceIdeal.Body

open Idealize.ShloMosaic Idealize.SL.Sem Idealize.ShloMosaic.TcCoe Idealize.ShloMosaic.Tactic
open Cert.ReferenceIdeal Cert.ReferenceIdeal.Gen
open Cert.ReferenceIdeal.Read
variable (x0 : (⟨S2x96x224x224, .f32⟩ : BufTy).Contents (Elt Ideal)) (x1 : (⟨S2x8x56x56, .f32⟩ : BufTy).Contents (Elt Ideal))
  (x2 : (⟨S2x9x64, .f32⟩ : BufTy).Contents (Elt Ideal)) (x3 : (⟨S2x8, .i32⟩ : BufTy).Contents (Elt Ideal)) (x4 x5 x9 x11 : (⟨S96, .f32⟩ : BufTy).Contents (Elt Ideal))
  (x6 : (⟨S8x64x64, .f32⟩ : BufTy).Contents (Elt Ideal)) (x7 : (⟨S8x64, .f32⟩ : BufTy).Contents (Elt Ideal)) (x8 x10 : (⟨S96x64x3x3, .f32⟩ : BufTy).Contents (Elt Ideal))

theorem drop_idx (h : (⟨4, ![2, 96, 224, 224]⟩ : Shape).ReducesTo [0, 2, 3] (⟨1, ![96]⟩ : Shape)) (a : Fin 96) (i : (⟨4, ![2, 96, 224, 224]⟩ : Shape).Idx) :
    h.drop i = ix1 a ↔ ∃ k : Fin 2 × Fin 224 × Fin 224, ix4 k.1 a k.2.1 k.2.2 = i := by
  have key : (h.drop i 0).val = (i 1).val := rfl
  constructor
  · intro hh
    refine ⟨(i 0, i 2, i 3), ?_⟩
    have h1 : (i 1).val = a.val := key.symm.trans (congrArg (fun j : (⟨1, ![96]⟩ : Shape).Idx => (j 0).val) hh)
    funext d
    match d with
    | ⟨0, _⟩ => rfl
    | ⟨1, _⟩ => exact Fin.ext h1.symm
    | ⟨2, _⟩ => rfl
    | ⟨3, _⟩ => rfl
  · rintro ⟨k, rfl⟩
    funext d
    match d with
    | ⟨0, _⟩ => exact Fin.ext key

/-- The sum over both images and all pixels of a channel. -/
theorem sum_channel (h : (⟨4, ![2, 96, 224, 224]⟩ : Shape).ReducesTo [0, 2, 3] (⟨1, ![96]⟩ : Shape)) (x : (⟨4, ![2, 96, 224, 224]⟩ : Shape).Idx → EReal) (e : EReal) (a : Fin 96) :
    Ideal.hostReduceAdd h x e (ix1 a) = e + ∑ b : Fin 2, ∑ y : Fin 224, ∑ z : Fin 224, x (ix4 b a y z) := by
  refine congrArg (e + ·) ?_
  refine (Finset.sum_filter_eq_sum_of_fiber _ (fun k : Fin 2 × Fin 224 × Fin 224 => ix4 k.1 a k.2.1 k.2.2)
    (fun _ _ e => Prod.ext (congrFun e 0) (Prod.ext (congrFun e 2) (congrFun e 3))) (drop_idx h a) x).trans ?_
  simp only [Fintype.sum_prod_type]

/-- The reference's mean. -/
theorem r_mean (a : Fin 96) : val_main_v8 (F := Ideal) x0 (ix1 a) = Spec.mean x0 a := by
  unfold val_main_v8 val_main_v7 val_main_v6 val_main_cst_0 val_main_cst_1
  pointwise []
  rw [sum_channel, zero_add]
  rfl

/-- The reference's variance. -/
theorem r_var (a : Fin 96) : val_main_v15 (F := Ideal) x0 (ix1 a) = Spec.variance x0 a := by
  unfold val_main_v15 val_main_v14 val_main_v13 val_main_cst_2 val_main_cst_3
  pointwise []
  rw [sum_channel, zero_add]
  unfold Spec.variance
  refine congrArg (fun e => Ideal.div e _) (Finset.sum_congr rfl fun b _ => Finset.sum_congr rfl fun y _ => Finset.sum_congr rfl fun z _ => ?_)
  unfold val_main_v12 val_main_v11 val_main_v10 val_main_v9
  pointwise []
  rw [r_mean]

/-- The reference's normalised image. -/
theorem r_norm (b : Fin 2) (a : Fin 96) (y z : Fin 224) :
    val_main_v27 (F := Ideal) x0 x4 x5 (ix4 b a y z) = Ideal.div (x0 (ix4 b a y z) - Spec.mean x0 a)
      (Ideal.sqrt (Spec.variance x0 a + Ideal.ofBits .f32 0x3727C5AC#32)) * x4 (ix1 a) + x5 (ix1 a) := by
  unfold val_main_v27 val_main_v24 val_main_v26 val_main_v25 val_main_v23 val_main_v22 val_main_v21 val_main_v20 val_main_v19 val_main_v18 val_main_v17 val_main_v16 val_main_cst_4 val_main_v11 val_main_v10 val_main_v9
  pointwise []
  rw [r_mean, r_var]

theorem sel_eq (x y : BitVec 32) {α : Type} (A B : α) : Scalar.select (IntOp.cmpi .eq x y) A B = if x = y then A else B := by
  rw [WordCmp.cmpi_eq_eq]
  by_cases h : x = y
  · rw [if_pos h, decide_eq_true h]; rfl
  · rw [if_neg h, decide_eq_false h]; rfl

theorem sel_ne (x : EReal) {α : Type} (A B : α) : Scalar.select (BitVec.ofBool (decide (x ≠ 0))) A B = if x ≠ 0 then A else B := by
  by_cases h : x ≠ 0
  · rw [if_pos h, decide_eq_true h]; rfl
  · rw [if_neg h, decide_eq_false h]; rfl

/-- The resized masks: pixel `(y, z)` is the cell `(y/4, z/4)`. -/
theorem r_mask (b : Fin 2) (k : Fin 8) (y z : Fin 224) :
    val_main_v5 (F := Ideal) x1 (ix4 b k y z) = BitVec.ofBool (decide (x1 (ix4 b k (⟨y.val / 4, by omega⟩ : Fin 56) (⟨z.val / 4, by omega⟩ : Fin 56)) ≠ 0)) := by
  pointwise [val_main_v5, val_main_v4, val_main_cst, val_main_v3, val_main_v2, val_main_v1, val_main_v0]

theorem r_code0 (b : Fin 2) (s : Fin 64) : val_main_v38 (F := Ideal) x2 x3 (ix2 b s) = Spec.code x2 x3 b 0 s := by
  unfold val_main_v38
  pointwise [val_main_call0_v0, val_main_v33, val_main_v32, val_main_v30, val_main_v29, val_main_v31, val_main_c, val_main_v35, val_main_v34, val_main_v37, val_main_v36]
  exact sel_eq _ _ _ _
theorem r_mu0 (b : Fin 2) (j : Fin 64) : val_main_v49 (F := Ideal) x2 x3 x6 x7 (ix2 b j) = Spec.mu x2 x3 x6 x7 b 0 j := by
  unfold val_main_v49
  pointwise [val_main_v47, val_main_v42, val_main_v41, val_main_v40, val_main_v39, val_main_v46, val_main_v45, val_main_v44, val_main_v43, val_main_v48, val_main_cst_6]
  unfold Spec.mu
  refine Eq.trans ?_ (dif_pos (by decide)).symm
  refine congrArg (fun e => max (e + _) 0) (Finset.sum_congr rfl fun s _ => ?_)
  rw [r_code0]
  rfl
theorem r_mid0 (b : Fin 2) (j : Fin 64) (y z : Fin 224) : val_main_v54 (F := Ideal) x1 x2 x3 x6 x7 (ix4 b j y z)
    = if x1 (ix4 b 0 (⟨y.val / 4, by omega⟩ : Fin 56) (⟨z.val / 4, by omega⟩ : Fin 56)) ≠ 0 then Spec.mu x2 x3 x6 x7 b 0 j else val_main_v28 (F := Ideal)  (ix4 b j y z) := by
  unfold val_main_v54
  pointwise [val_main_call1_v0, val_main_v52, val_main_v51, val_main_v50, val_main_call1_v1, val_main_v53]
  rw [r_mask, r_mu0, sel_ne]

theorem r_code1 (b : Fin 2) (s : Fin 64) : val_main_v64 (F := Ideal) x2 x3 (ix2 b s) = Spec.code x2 x3 b 1 s := by
  unfold val_main_v64
  pointwise [val_main_call2_v0, val_main_v59, val_main_v58, val_main_v56, val_main_v55, val_main_v57, val_main_c_7, val_main_v61, val_main_v60, val_main_v63, val_main_v62]
  exact sel_eq _ _ _ _
theorem r_mu1 (b : Fin 2) (j : Fin 64) : val_main_v75 (F := Ideal) x2 x3 x6 x7 (ix2 b j) = Spec.mu x2 x3 x6 x7 b 1 j := by
  unfold val_main_v75
  pointwise [val_main_v73, val_main_v68, val_main_v67, val_main_v66, val_main_v65, val_main_v72, val_main_v71, val_main_v70, val_main_v69, val_main_v74, val_main_cst_8]
  unfold Spec.mu
  refine Eq.trans ?_ (dif_pos (by decide)).symm
  refine congrArg (fun e => max (e + _) 0) (Finset.sum_congr rfl fun s _ => ?_)
  rw [r_code1]
  rfl
theorem r_mid1 (b : Fin 2) (j : Fin 64) (y z : Fin 224) : val_main_v80 (F := Ideal) x1 x2 x3 x6 x7 (ix4 b j y z)
    = if x1 (ix4 b 1 (⟨y.val / 4, by omega⟩ : Fin 56) (⟨z.val / 4, by omega⟩ : Fin 56)) ≠ 0 then Spec.mu x2 x3 x6 x7 b 1 j else val_main_v54 (F := Ideal) x1 x2 x3 x6 x7 (ix4 b j y z) := by
  unfold val_main_v80
  pointwise [val_main_call3_v0, val_main_v78, val_main_v77, val_main_v76, val_main_call3_v1, val_main_v79]
  rw [r_mask, r_mu1, sel_ne]

theorem r_code2 (b : Fin 2) (s : Fin 64) : val_main_v90 (F := Ideal) x2 x3 (ix2 b s) = Spec.code x2 x3 b 2 s := by
  unfold val_main_v90
  pointwise [val_main_call4_v0, val_main_v85, val_main_v84, val_main_v82, val_main_v81, val_main_v83, val_main_c_9, val_main_v87, val_main_v86, val_main_v89, val_main_v88]
  exact sel_eq _ _ _ _
theorem r_mu2 (b : Fin 2) (j : Fin 64) : val_main_v101 (F := Ideal) x2 x3 x6 x7 (ix2 b j) = Spec.mu x2 x3 x6 x7 b 2 j := by
  unfold val_main_v101
  pointwise [val_main_v99, val_main_v94, val_main_v93, val_main_v92, val_main_v91, val_main_v98, val_main_v97, val_main_v96, val_main_v95, val_main_v100, val_main_cst_10]
  unfold Spec.mu
  refine Eq.trans ?_ (dif_pos (by decide)).symm
  refine congrArg (fun e => max (e + _) 0) (Finset.sum_congr rfl fun s _ => ?_)
  rw [r_code2]
  rfl
theorem r_mid2 (b : Fin 2) (j : Fin 64) (y z : Fin 224) : val_main_v106 (F := Ideal) x1 x2 x3 x6 x7 (ix4 b j y z)
    = if x1 (ix4 b 2 (⟨y.val / 4, by omega⟩ : Fin 56) (⟨z.val / 4, by omega⟩ : Fin 56)) ≠ 0 then Spec.mu x2 x3 x6 x7 b 2 j else val_main_v80 (F := Ideal) x1 x2 x3 x6 x7 (ix4 b j y z) := by
  unfold val_main_v106
  pointwise [val_main_call5_v0, val_main_v104, val_main_v103, val_main_v102, val_main_call5_v1, val_main_v105]
  rw [r_mask, r_mu2, sel_ne]

theorem r_code3 (b : Fin 2) (s : Fin 64) : val_main_v116 (F := Ideal) x2 x3 (ix2 b s) = Spec.code x2 x3 b 3 s := by
  unfold val_main_v116
  pointwise [val_main_call6_v0, val_main_v111, val_main_v110, val_main_v108, val_main_v107, val_main_v109, val_main_c_11, val_main_v113, val_main_v112, val_main_v115, val_main_v114]
  exact sel_eq _ _ _ _
theorem r_mu3 (b : Fin 2) (j : Fin 64) : val_main_v127 (F := Ideal) x2 x3 x6 x7 (ix2 b j) = Spec.mu x2 x3 x6 x7 b 3 j := by
  unfold val_main_v127
  pointwise [val_main_v125, val_main_v120, val_main_v119, val_main_v118, val_main_v117, val_main_v124, val_main_v123, val_main_v122, val_main_v121, val_main_v126, val_main_cst_12]
  unfold Spec.mu
  refine Eq.trans ?_ (dif_pos (by decide)).symm
  refine congrArg (fun e => max (e + _) 0) (Finset.sum_congr rfl fun s _ => ?_)
  rw [r_code3]
  rfl
theorem r_mid3 (b : Fin 2) (j : Fin 64) (y z : Fin 224) : val_main_v132 (F := Ideal) x1 x2 x3 x6 x7 (ix4 b j y z)
    = if x1 (ix4 b 3 (⟨y.val / 4, by omega⟩ : Fin 56) (⟨z.val / 4, by omega⟩ : Fin 56)) ≠ 0 then Spec.mu x2 x3 x6 x7 b 3 j else val_main_v106 (F := Ideal) x1 x2 x3 x6 x7 (ix4 b j y z) := by
  unfold val_main_v132
  pointwise [val_main_call7_v0, val_main_v130, val_main_v129, val_main_v128, val_main_call7_v1, val_main_v131]
  rw [r_mask, r_mu3, sel_ne]

theorem r_code4 (b : Fin 2) (s : Fin 64) : val_main_v142 (F := Ideal) x2 x3 (ix2 b s) = Spec.code x2 x3 b 4 s := by
  unfold val_main_v142
  pointwise [val_main_call8_v0, val_main_v137, val_main_v136, val_main_v134, val_main_v133, val_main_v135, val_main_c_13, val_main_v139, val_main_v138, val_main_v141, val_main_v140]
  exact sel_eq _ _ _ _
theorem r_mu4 (b : Fin 2) (j : Fin 64) : val_main_v153 (F := Ideal) x2 x3 x6 x7 (ix2 b j) = Spec.mu x2 x3 x6 x7 b 4 j := by
  unfold val_main_v153
  pointwise [val_main_v151, val_main_v146, val_main_v145, val_main_v144, val_main_v143, val_main_v150, val_main_v149, val_main_v148, val_main_v147, val_main_v152, val_main_cst_14]
  unfold Spec.mu
  refine Eq.trans ?_ (dif_pos (by decide)).symm
  refine congrArg (fun e => max (e + _) 0) (Finset.sum_congr rfl fun s _ => ?_)
  rw [r_code4]
  rfl
theorem r_mid4 (b : Fin 2) (j : Fin 64) (y z : Fin 224) : val_main_v158 (F := Ideal) x1 x2 x3 x6 x7 (ix4 b j y z)
    = if x1 (ix4 b 4 (⟨y.val / 4, by omega⟩ : Fin 56) (⟨z.val / 4, by omega⟩ : Fin 56)) ≠ 0 then Spec.mu x2 x3 x6 x7 b 4 j else val_main_v132 (F := Ideal) x1 x2 x3 x6 x7 (ix4 b j y z) := by
  unfold val_main_v158
  pointwise [val_main_call9_v0, val_main_v156, val_main_v155, val_main_v154, val_main_call9_v1, val_main_v157]
  rw [r_mask, r_mu4, sel_ne]

theorem r_code5 (b : Fin 2) (s : Fin 64) : val_main_v168 (F := Ideal) x2 x3 (ix2 b s) = Spec.code x2 x3 b 5 s := by
  unfold val_main_v168
  pointwise [val_main_call10_v0, val_main_v163, val_main_v162, val_main_v160, val_main_v159, val_main_v161, val_main_c_15, val_main_v165, val_main_v164, val_main_v167, val_main_v166]
  exact sel_eq _ _ _ _
theorem r_mu5 (b : Fin 2) (j : Fin 64) : val_main_v179 (F := Ideal) x2 x3 x6 x7 (ix2 b j) = Spec.mu x2 x3 x6 x7 b 5 j := by
  unfold val_main_v179
  pointwise [val_main_v177, val_main_v172, val_main_v171, val_main_v170, val_main_v169, val_main_v176, val_main_v175, val_main_v174, val_main_v173, val_main_v178, val_main_cst_16]
  unfold Spec.mu
  refine Eq.trans ?_ (dif_pos (by decide)).symm
  refine congrArg (fun e => max (e + _) 0) (Finset.sum_congr rfl fun s _ => ?_)
  rw [r_code5]
  rfl
theorem r_mid5 (b : Fin 2) (j : Fin 64) (y z : Fin 224) : val_main_v184 (F := Ideal) x1 x2 x3 x6 x7 (ix4 b j y z)
    = if x1 (ix4 b 5 (⟨y.val / 4, by omega⟩ : Fin 56) (⟨z.val / 4, by omega⟩ : Fin 56)) ≠ 0 then Spec.mu x2 x3 x6 x7 b 5 j else val_main_v158 (F := Ideal) x1 x2 x3 x6 x7 (ix4 b j y z) := by
  unfold val_main_v184
  pointwise [val_main_call11_v0, val_main_v182, val_main_v181, val_main_v180, val_main_call11_v1, val_main_v183]
  rw [r_mask, r_mu5, sel_ne]

theorem r_code6 (b : Fin 2) (s : Fin 64) : val_main_v194 (F := Ideal) x2 x3 (ix2 b s) = Spec.code x2 x3 b 6 s := by
  unfold val_main_v194
  pointwise [val_main_call12_v0, val_main_v189, val_main_v188, val_main_v186, val_main_v185, val_main_v187, val_main_c_17, val_main_v191, val_main_v190, val_main_v193, val_main_v192]
  exact sel_eq _ _ _ _
theorem r_mu6 (b : Fin 2) (j : Fin 64) : val_main_v205 (F := Ideal) x2 x3 x6 x7 (ix2 b j) = Spec.mu x2 x3 x6 x7 b 6 j := by
  unfold val_main_v205
  pointwise [val_main_v203, val_main_v198, val_main_v197, val_main_v196, val_main_v195, val_main_v202, val_main_v201, val_main_v200, val_main_v199, val_main_v204, val_main_cst_18]
  unfold Spec.mu
  refine Eq.trans ?_ (dif_pos (by decide)).symm
  refine congrArg (fun e => max (e + _) 0) (Finset.sum_congr rfl fun s _ => ?_)
  rw [r_code6]
  rfl
theorem r_mid6 (b : Fin 2) (j : Fin 64) (y z : Fin 224) : val_main_v210 (F := Ideal) x1 x2 x3 x6 x7 (ix4 b j y z)
    = if x1 (ix4 b 6 (⟨y.val / 4, by omega⟩ : Fin 56) (⟨z.val / 4, by omega⟩ : Fin 56)) ≠ 0 then Spec.mu x2 x3 x6 x7 b 6 j else val_main_v184 (F := Ideal) x1 x2 x3 x6 x7 (ix4 b j y z) := by
  unfold val_main_v210
  pointwise [val_main_call13_v0, val_main_v208, val_main_v207, val_main_v206, val_main_call13_v1, val_main_v209]
  rw [r_mask, r_mu6, sel_ne]

theorem r_code7 (b : Fin 2) (s : Fin 64) : val_main_v220 (F := Ideal) x2 x3 (ix2 b s) = Spec.code x2 x3 b 7 s := by
  unfold val_main_v220
  pointwise [val_main_call14_v0, val_main_v215, val_main_v214, val_main_v212, val_main_v211, val_main_v213, val_main_c_19, val_main_v217, val_main_v216, val_main_v219, val_main_v218]
  exact sel_eq _ _ _ _
theorem r_mu7 (b : Fin 2) (j : Fin 64) : val_main_v231 (F := Ideal) x2 x3 x6 x7 (ix2 b j) = Spec.mu x2 x3 x6 x7 b 7 j := by
  unfold val_main_v231
  pointwise [val_main_v229, val_main_v224, val_main_v223, val_main_v222, val_main_v221, val_main_v228, val_main_v227, val_main_v226, val_main_v225, val_main_v230, val_main_cst_20]
  unfold Spec.mu
  refine Eq.trans ?_ (dif_pos (by decide)).symm
  refine congrArg (fun e => max (e + _) 0) (Finset.sum_congr rfl fun s _ => ?_)
  rw [r_code7]
  rfl
theorem r_mid7 (b : Fin 2) (j : Fin 64) (y z : Fin 224) : val_main_v236 (F := Ideal) x1 x2 x3 x6 x7 (ix4 b j y z)
    = if x1 (ix4 b 7 (⟨y.val / 4, by omega⟩ : Fin 56) (⟨z.val / 4, by omega⟩ : Fin 56)) ≠ 0 then Spec.mu x2 x3 x6 x7 b 7 j else val_main_v210 (F := Ideal) x1 x2 x3 x6 x7 (ix4 b j y z) := by
  unfold val_main_v236
  pointwise [val_main_call15_v0, val_main_v234, val_main_v233, val_main_v232, val_main_call15_v1, val_main_v235]
  rw [r_mask, r_mu7, sel_ne]

/-- The style image: the style vector of the last region that holds the pixel. -/
theorem r_style (b : Fin 2) (j : Fin 64) (y z : Fin 224) : val_main_v236 (F := Ideal) x1 x2 x3 x6 x7 (ix4 b j y z)
    = Spec.mu x2 x3 x6 x7 b (Spec.region x1 b (⟨y.val / 4, by omega⟩ : Fin 56) (⟨z.val / 4, by omega⟩ : Fin 56)) j := by
  rw [r_mid7, r_mid6, r_mid5, r_mid4, r_mid3, r_mid2, r_mid1, r_mid0]
  have h8 : val_main_v28 (F := Ideal) (ix4 b j y z) = Spec.mu x2 x3 x6 x7 b 8 j := by
    unfold val_main_v28 val_main_cst_5
    pointwise []
    rfl
  rw [h8]
  unfold Spec.region
  split_ifs <;> rfl

/-- The style image with a border of zeros. -/
theorem r_pad (x : (⟨S2x64x224x224, .f32⟩ : BufTy).Contents (Elt Ideal)) (v : (⟨S_, .f32⟩ : BufTy).Contents (Elt Ideal)) (hv : ∀ i, v i = (0 : EReal))
    (b : Fin 2) (j : Fin 64) (P Q : Fin 226) :
    pad S2x64x226x226 ![0, 0, 1, 1] ![0, 0, 1, 1] ![0, 0, 0, 0] x v pads_S2x64x224x224_S2x64x226x226_000_000_110_110 h_S_ (ix4 b j P Q)
      = if h : (1 ≤ P.val ∧ P.val ≤ 224) ∧ 1 ≤ Q.val ∧ Q.val ≤ 224 then x (ix4 b j (⟨P.val - 1, by omega⟩ : Fin 224) (⟨Q.val - 1, by omega⟩ : Fin 224)) else (0 : EReal) := by
  by_cases h : (1 ≤ P.val ∧ P.val ≤ 224) ∧ 1 ≤ Q.val ∧ Q.val ≤ 224
  · rw [dif_pos h]
    refine pad_apply_of_inside _ _ _ x v _ _ _ (ix4 b j (⟨P.val - 1, by omega⟩ : Fin 224) (⟨Q.val - 1, by omega⟩ : Fin 224)) fun a => ?_
    match a with
    | ⟨0, _⟩ => show b.val = 0 + b.val * 1; omega
    | ⟨1, _⟩ => show j.val = 0 + j.val * 1; omega
    | ⟨2, _⟩ => show P.val = 1 + (P.val - 1) * 1; omega
    | ⟨3, _⟩ => show Q.val = 1 + (Q.val - 1) * 1; omega
  · rw [dif_neg h]
    by_cases hP : 1 ≤ P.val ∧ P.val ≤ 224
    · refine (pad_apply_of_not_inside _ _ _ x v _ _ _ (3 : Fin 4) ?_).trans (hv _)
      show ¬ (1 ≤ Q.val ∧ (Q.val - 1) % 1 = 0 ∧ (Q.val - 1) / 1 < 224)
      omega
    · refine (pad_apply_of_not_inside _ _ _ x v _ _ _ (2 : Fin 4) ?_).trans (hv _)
      show ¬ (1 ≤ P.val ∧ (P.val - 1) % 1 = 0 ∧ (P.val - 1) / 1 < 224)
      omega

theorem int_zero : FloatOps.sitofp (F := Ideal) FTy.f32 (0#32 : BitVec 32) = (0 : EReal) := by
  show ((((0#32 : BitVec 32).toInt : ℤ) : ℝ) : EReal) = 0
  simp
theorem nine (f : Fin 9 → EReal) : ∑ k : Fin 9, f k = f 0 + f 1 + f 2 + f 3 + f 4 + f 5 + f 6 + f 7 + f 8 := by
  rw [Fin.sum_univ_castSucc, Fin.sum_univ_eight]
  rfl

theorem r_framed (v : (⟨S_, .f32⟩ : BufTy).Contents (Elt Ideal)) (hv : ∀ i, v i = (0 : EReal)) (b : Fin 2) (j : Fin 64) (P Q : Fin 226) :
    pad S2x64x226x226 ![0, 0, 1, 1] ![0, 0, 1, 1] ![0, 0, 0, 0] (val_main_v236 (F := Ideal) x1 x2 x3 x6 x7) v pads_S2x64x224x224_S2x64x226x226_000_000_110_110 h_S_ (ix4 b j P Q)
      = Spec.framed x1 (fun k => Spec.mu x2 x3 x6 x7 b k j) b P.val Q.val := by
  rw [r_pad _ v hv]
  unfold Spec.framed
  by_cases h : (1 ≤ P.val ∧ P.val ≤ 224) ∧ 1 ≤ Q.val ∧ Q.val ≤ 224
  · rw [dif_pos h, dif_pos h, r_style]
  · rw [dif_neg h, dif_neg h]

theorem r_v237 (b : Fin 2) (j : Fin 64) (P Q : Fin 226) : val_main_v237 (F := Ideal) x1 x2 x3 x6 x7 (ix4 b j P Q) = Spec.framed x1 (fun k => Spec.mu x2 x3 x6 x7 b k j) b P.val Q.val := by
  unfold val_main_v237
  refine r_framed x1 x2 x3 x6 x7 _ (fun i => ?_) b j P Q
  pointwise [val_main_call16_v0, val_main_c_21]
  exact int_zero

theorem r_v296 (b : Fin 2) (j : Fin 64) (P Q : Fin 226) : val_main_v296 (F := Ideal) x1 x2 x3 x6 x7 (ix4 b j P Q) = Spec.framed x1 (fun k => Spec.mu x2 x3 x6 x7 b k j) b P.val Q.val := by
  unfold val_main_v296
  refine r_framed x1 x2 x3 x6 x7 _ (fun i => ?_) b j P Q
  pointwise [val_main_call17_v0, val_main_c_23]
  exact int_zero

/-- The convolution for gamma: the nine taps, added in turn. -/
theorem r_gamma (b : Fin 2) (a : Fin 96) (y z : Fin 224) : val_main_v292 (F := Ideal) x1 x2 x3 x6 x7 x8 (ix4 b a y z) = ∑ tap : Fin 9, Spec.tapSum x1 x2 x3 x6 x7 x8 b a y z tap := by
  unfold val_main_v292
  pointwise [val_main_v286, val_main_v280, val_main_v274, val_main_v268, val_main_v262, val_main_v256, val_main_v250, val_main_v244, val_main_v243, val_main_cst_22, val_main_v242, val_main_v241, val_main_v240, val_main_v239, val_main_v238, val_main_v249, val_main_v248, val_main_v247, val_main_v246, val_main_v245, val_main_v255, val_main_v254, val_main_v253, val_main_v252, val_main_v251, val_main_v261, val_main_v260, val_main_v259, val_main_v258, val_main_v257, val_main_v267, val_main_v266, val_main_v265, val_main_v264, val_main_v263, val_main_v273, val_main_v272, val_main_v271, val_main_v270, val_main_v269, val_main_v279, val_main_v278, val_main_v277, val_main_v276, val_main_v275, val_main_v285, val_main_v284, val_main_v283, val_main_v282, val_main_v281, val_main_v291, val_main_v290, val_main_v289, val_main_v288, val_main_v287]
  simp only [r_v237]
  rw [nine]
  simp only [Nat.add_comm 1, Nat.add_comm 2]
  rfl

/-- The convolution for beta: the nine taps, added in turn. -/
theorem r_beta (b : Fin 2) (a : Fin 96) (y z : Fin 224) : val_main_v351 (F := Ideal) x1 x2 x3 x6 x7 x10 (ix4 b a y z) = ∑ tap : Fin 9, Spec.tapSum x1 x2 x3 x6 x7 x10 b a y z tap := by
  unfold val_main_v351
  pointwise [val_main_v345, val_main_v339, val_main_v333, val_main_v327, val_main_v321, val_main_v315, val_main_v309, val_main_v303, val_main_v302, val_main_cst_24, val_main_v301, val_main_v300, val_main_v299, val_main_v298, val_main_v297, val_main_v308, val_main_v307, val_main_v306, val_main_v305, val_main_v304, val_main_v314, val_main_v313, val_main_v312, val_main_v311, val_main_v310, val_main_v320, val_main_v319, val_main_v318, val_main_v317, val_main_v316, val_main_v326, val_main_v325, val_main_v324, val_main_v323, val_main_v322, val_main_v332, val_main_v331, val_main_v330, val_main_v329, val_main_v328, val_main_v338, val_main_v337, val_main_v336, val_main_v335, val_main_v334, val_main_v344, val_main_v343, val_main_v342, val_main_v341, val_main_v340, val_main_v350, val_main_v349, val_main_v348, val_main_v347, val_main_v346]
  simp only [r_v296]
  rw [nine]
  simp only [Nat.add_comm 1, Nat.add_comm 2]
  rfl

/-- The reference's result at an index. -/
theorem r_result (b : Fin 2) (a : Fin 96) (y z : Fin 224) : val_main_v358 (F := Ideal) x0 x1 x2 x3 x4 x5 x6 x7 x8 x9 x10 x11 (ix4 b a y z)
    = Spec.result x0 x1 x2 x3 x4 x5 x6 x7 x8 x9 x10 x11 b a y z := by
  unfold val_main_v358
  pointwise [val_main_v357, val_main_v356, val_main_v355, val_main_cst_25, val_main_v354, val_main_v353, val_main_v352, val_main_v295, val_main_v294, val_main_v293]
  rw [r_norm, r_gamma, r_beta]
  rfl

end Cert.ReferenceIdeal.Body

end
-- ==== Proof.Equation.lean ====
/- The kernel's arrangement of the result is the plain one. -/
module

public import proofs.«01_k».proof.Proof.Sums

@[expose] public section

set_option maxRecDepth 16384

noncomputable section

namespace Cert.Spec

open Idealize.ShloMosaic Idealize.SL.Sem Idealize.ShloMosaic.TcCoe Idealize.ShloMosaic.Tactic

/-- The number of pixels of a channel, as the programs write it. -/
theorem count_eq : Ideal.ofBits .f32 0x47C40000#32 = ((100352 : ℝ) : EReal) := by
  simp [Ideal.ofBits, Ideal.ieee, -EReal.coe_mul]
  norm_num

/-- The constant under the root is a positive real. -/
theorem eps_eq : ∃ e : ℝ, 0 < e ∧ Ideal.ofBits .f32 0x3727C5AC#32 = (e : EReal) := by
  refine ⟨10995116 / 2 ^ 40, by norm_num, ?_⟩
  simp [Ideal.ofBits, Ideal.ieee, -EReal.coe_mul]
  norm_num

/-- The bound of the precondition is infinity. -/
theorem inf_eq : Ideal.ofBits .f32 0x7F800000#32 = ⊤ := by simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of reals is real. -/
theorem real_sum {ι : Type} [Fintype ι] (f : ι → EReal) (h : ∀ i, ∃ r : ℝ, f i = r) : ∃ r : ℝ, ∑ i, f i = r := by
  choose g hg using h
  exact ⟨∑ i, g i, by rw [coe_sum]; exact Finset.sum_congr rfl fun i _ => hg i⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_relu {x : EReal} (hx : ∃ r : ℝ, x = r) : ∃ r : ℝ, max x 0 = r := by
  rcases max_choice x 0 with h | h
  · rw [h]; exact hx
  · exact ⟨0, h⟩

theorem inf_add {x y : EReal} (h : (x = ⊤ ∨ x = ⊥) ∨ (y = ⊤ ∨ y = ⊥)) : x + y = ⊤ ∨ x + y = ⊥ := by
  by_cases hx : x = ⊥
  · right; rw [hx, EReal.bot_add]
  by_cases hy : y = ⊥
  · right; rw [hy, EReal.add_bot]
  left
  rcases h with (h | h) | (h | h)
  · rw [h, EReal.top_add_of_ne_bot hy]
  · exact absurd h hx
  · rw [h, EReal.add_top_of_ne_bot hx]
  · exact absurd h hy

/-- A sum with an infinite term is infinite. -/
theorem inf_sum {ι : Type} (s : Finset ι) (f : ι → EReal) (i : ι) (hi : i ∈ s) (h : f i = ⊤ ∨ f i = ⊥) : ∑ i ∈ s, f i = ⊤ ∨ ∑ i ∈ s, f i = ⊥ := by
  classical
  rw [← Finset.add_sum_erase s f hi]
  exact inf_add (.inl h)

theorem sq_nonneg' (x : EReal) : 0 ≤ x * x := by
  induction x with
  | bot => simp
  | top => simp
  | coe r => rw [← EReal.coe_mul]; exact_mod_cast mul_self_nonneg r

theorem sq_inf {x : EReal} (h : x = ⊤ ∨ x = ⊥) : x * x = ⊤ := by
  rcases h with h | h <;> rw [h]
  · exact EReal.top_mul_top
  · exact EReal.bot_mul_bot

/-- A sum of squares with an infinite one is infinite. -/
theorem sum_sq_inf {ι : Type} [Fintype ι] (f : ι → EReal) (i : ι) (h : f i = ⊤ ∨ f i = ⊥) : ∑ i, f i * f i = ⊤ := by
  refine top_le_iff.1 ?_
  rw [← sq_inf h]
  exact Finset.single_le_sum (f := fun i => f i * f i) (fun i _ => sq_nonneg' (f i)) (Finset.mem_univ i)

/-- The mean of the squares about the mean is the mean of the squares less the square of the mean. -/
theorem variance_identity {ι : Type} [Fintype ι] (f : ι → ℝ) (n : ℝ) (hn : n = Fintype.card ι) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  generalize hS : ∑ i, f i = S
  have e (i : ι) : (f i - S * (1 / n)) * (f i - S * (1 / n)) = f i * f i - (2 * (S * (1 / n))) * f i + S * (1 / n) * (S * (1 / n)) := by ring
  simp only [e]
  rw [Finset.sum_add_distrib, Finset.sum_sub_distrib, ← Finset.mul_sum, hS, Finset.sum_const, Finset.card_univ, nsmul_eq_mul, ← hn]
  field_simp
  ring

/-- The two arrangements of the result agree on reals; what is added last is any extended real. -/
theorem core (x μ s w bb g : ℝ) (t : Fin 9 → ℝ) (T : Fin 9 → EReal) (β : EReal) :
    (x : EReal) * (∑ k, (w : EReal) * (s : EReal) * (t k : EReal) + (w : EReal) * (s : EReal) * (1 + (g : EReal)))
      + (∑ k, (((bb : EReal) - (μ : EReal) * ((w : EReal) * (s : EReal))) * (t k : EReal) + T k)
        + (((bb : EReal) - (μ : EReal) * ((w : EReal) * (s : EReal))) * (1 + (g : EReal)) + β))
      = (((x : EReal) - (μ : EReal)) * (s : EReal) * (w : EReal) + (bb : EReal)) * (1 + (∑ k, (t k : EReal) + (g : EReal))) + (∑ k, T k + β) := by
  rw [Finset.sum_add_distrib, add_add_add_comm, ← add_assoc]
  refine congrArg (· + (∑ k, T k + β)) ?_
  simp only [← EReal.coe_one, ← EReal.coe_mul, ← EReal.coe_add, ← EReal.coe_sub, ← coe_sum]
  refine congrArg _ ?_
  simp only [← Finset.mul_sum]
  ring

section
variable (x0 : A4 2 96 224 224) (x1 : A4 2 8 56 56) (x2 : A3 2 9 64) (x3 : (⟨2, ![2, 8]⟩ : Shape).Idx → BitVec 32) (x4 x5 : A1 96)
  (x6 : A3 8 64 64) (x7 : A2 8 64) (x8 : A4 96 64 3 3) (x9 : A1 96) (x10 : A4 96 64 3 3) (x11 : A1 96)

/-- Style vectors of real codes, weights and offsets are real. -/
theorem mu_real (h2 : ∀ i, ∃ r : ℝ, x2 i = r) (h6 : ∀ i, ∃ r : ℝ, x6 i = r) (h7 : ∀ i, ∃ r : ℝ, x7 i = r) (b : Fin 2) (k : Fin 9) (j : Fin 64) :
    ∃ r : ℝ, mu x2 x3 x6 x7 b k j = r := by
  by_cases h : k.val < 8
  · have hc (s : Fin 64) : ∃ r : ℝ, code x2 x3 b ⟨k.val, h⟩ s = r := by
      unfold code
      split_ifs
      · exact h2 _
      · exact h2 _
    obtain ⟨r, hr⟩ := real_relu (real_add (real_sum _ fun s => real_mul (hc s) (h6 (ix3 (⟨k.val, h⟩ : Fin 8) j s))) (h7 (ix2 (⟨k.val, h⟩ : Fin 8) j)))
    exact ⟨r, (dif_pos h).trans hr⟩
  · exact ⟨0, dif_neg h⟩

theorem framed_real (g : Fin 9 → EReal) (hg : ∀ k, ∃ r : ℝ, g k = r) (b : Fin 2) (P Q : ℕ) : ∃ r : ℝ, framed x1 g b P Q = r := by
  by_cases h : (1 ≤ P ∧ P ≤ 224) ∧ 1 ≤ Q ∧ Q ≤ 224
  · obtain ⟨r, hr⟩ := hg (region x1 b ⟨(P - 1) / 4, by omega⟩ ⟨(Q - 1) / 4, by omega⟩)
    exact ⟨r, (dif_pos h).trans hr⟩
  · exact ⟨0, dif_neg h⟩

theorem tap_real (h2 : ∀ i, ∃ r : ℝ, x2 i = r) (h6 : ∀ i, ∃ r : ℝ, x6 i = r) (h7 : ∀ i, ∃ r : ℝ, x7 i = r) (h8 : ∀ i, ∃ r : ℝ, x8 i = r)
    (b : Fin 2) (a : Fin 96) (y z : Fin 224) (tap : Fin 9) : ∃ r : ℝ, tapSum x1 x2 x3 x6 x7 x8 b a y z tap = r :=
  real_sum _ fun j => real_mul (framed_real x1 _ (fun k => mu_real x2 x3 x6 x7 h2 h6 h7 b k j) b _ _) (h8 _)

/-- The result in the kernel's arrangement: the batch statistics from the sums of the values and of the squares, and the modulation as
    one factor and one offset. -/
def arranged (b : Fin 2) (a : Fin 96) (y z : Fin 224) : EReal :=
  let s : EReal := Ideal.div (x4 (ix1 a)) (Ideal.sqrt (Ideal.div (∑ b : Fin 2, ∑ y : Fin 224, ∑ z : Fin 224, x0 (ix4 b a y z) * x0 (ix4 b a y z))
    (Ideal.ofBits .f32 0x47C40000#32) - mean x0 a * mean x0 a + Ideal.ofBits .f32 0x3727C5AC#32))
  let h : EReal := x5 (ix1 a) - mean x0 a * s
  x0 (ix4 b a y z) * (∑ tap : Fin 9, s * tapSum x1 x2 x3 x6 x7 x8 b a y z tap + s * (1 + x9 (ix1 a)))
    + (∑ tap : Fin 9, (h * tapSum x1 x2 x3 x6 x7 x8 b a y z tap + tapSum x1 x2 x3 x6 x7 x10 b a y z tap) + (h * (1 + x9 (ix1 a)) + x11 (ix1 a)))

/-- In a channel of real values the kernel's arrangement is the result. -/
theorem arranged_real (a : Fin 96) (h0 : ∀ b y z, ∃ r : ℝ, x0 (ix4 b a y z) = r) (h2 : ∀ i, ∃ r : ℝ, x2 i = r) (h4 : ∀ i, ∃ r : ℝ, x4 i = r) (h5 : ∀ i, ∃ r : ℝ, x5 i = r)
    (h6 : ∀ i, ∃ r : ℝ, x6 i = r) (h7 : ∀ i, ∃ r : ℝ, x7 i = r) (h8 : ∀ i, ∃ r : ℝ, x8 i = r) (h9 : ∀ i, ∃ r : ℝ, x9 i = r)
    (b : Fin 2) (y z : Fin 224) :
    arranged x0 x1 x2 x3 x4 x5 x6 x7 x8 x9 x10 x11 b a y z = result x0 x1 x2 x3 x4 x5 x6 x7 x8 x9 x10 x11 b a y z := by
  choose t ht using fun tap => tap_real x1 x2 x3 x6 x7 x8 h2 h6 h7 h8 b a y z tap
  choose r hr using h0
  obtain ⟨w, hw⟩ := h4 (ix1 a)
  obtain ⟨bb, hbb⟩ := h5 (ix1 a)
  obtain ⟨g, hg⟩ := h9 (ix1 a)
  obtain ⟨e, he, hee⟩ := eps_eq
  let f : Fin 2 × Fin 224 × Fin 224 → ℝ := fun p => r p.1 p.2.1 p.2.2
  have hn : (100352 : ℝ) ≠ 0 := by norm_num
  have hsum (F : EReal → EReal) (G : ℝ → ℝ) (hFG : ∀ v : ℝ, F v = G v) :
      ∑ b : Fin 2, ∑ y : Fin 224, ∑ z : Fin 224, F (x0 (ix4 b a y z)) = ((∑ p, G (f p) : ℝ) : EReal) := by
    rw [Fintype.sum_prod_type]
    simp only [Fintype.sum_prod_type, coe_sum, hr, hFG]
    rfl
  have hmean : mean x0 a = (((∑ p, f p) * (1 / 100352) : ℝ) : EReal) := by
    show Ideal.div (∑ b : Fin 2, ∑ y : Fin 224, ∑ z : Fin 224, x0 (ix4 b a y z)) (Ideal.ofBits .f32 0x47C40000#32) = _
    rw [count_eq, Ideal.div_coe hn, hsum (fun v => v) (fun v => v) (fun _ => rfl), ← EReal.coe_mul]
  have hsq : Ideal.div (∑ b : Fin 2, ∑ y : Fin 224, ∑ z : Fin 224, x0 (ix4 b a y z) * x0 (ix4 b a y z)) (Ideal.ofBits .f32 0x47C40000#32)
      = (((∑ p, f p * f p) * (1 / 100352) : ℝ) : EReal) := by
    rw [count_eq, Ideal.div_coe hn, hsum (fun v => v * v) (fun v => v * v) (fun v => (EReal.coe_mul v v).symm), ← EReal.coe_mul]
  let μ : ℝ := (∑ p, f p) * (1 / 100352)
  have hvar : variance x0 a = (((∑ p, (f p - μ) * (f p - μ)) * (1 / 100352) : ℝ) : EReal) := by
    show Ideal.div (∑ b : Fin 2, ∑ y : Fin 224, ∑ z : Fin 224, (x0 (ix4 b a y z) - mean x0 a) * (x0 (ix4 b a y z) - mean x0 a)) (Ideal.ofBits .f32 0x47C40000#32) = _
    rw [count_eq, Ideal.div_coe hn, hmean, hsum (fun v => (v - (μ : EReal)) * (v - (μ : EReal))) (fun v => (v - μ) * (v - μ)) (fun v => by
      rw [← EReal.coe_sub, ← EReal.coe_mul]), ← EReal.coe_mul]
  have hid : (∑ p, (f p - μ) * (f p - μ)) * (1 / 100352) = (∑ p, f p * f p) * (1 / 100352) - μ * μ :=
    variance_identity f 100352 (by simp [Fintype.card_prod, Fintype.card_fin]) hn
  let v : ℝ := (∑ p, (f p - μ) * (f p - μ)) * (1 / 100352)
  have hv : 0 ≤ v := mul_nonneg (Finset.sum_nonneg fun p _ => mul_self_nonneg _) (by norm_num)
  have hve : 0 < v + e := by linarith
  have hroot : Ideal.sqrt ((v + e : ℝ) : EReal) = ((Real.sqrt (v + e) : ℝ) : EReal) := by
    rw [Ideal.sqrt_coe, if_neg (by linarith)]
  have hs0 : Real.sqrt (v + e) ≠ 0 := (Real.sqrt_pos.mpr hve).ne'
  have hq : ((((∑ p, f p * f p) * (1 / 100352) : ℝ) : EReal) - (μ : EReal) * (μ : EReal) + (e : EReal)) = ((v + e : ℝ) : EReal) := by
    rw [← EReal.coe_mul, ← EReal.coe_sub, ← EReal.coe_add, ← hid]
  have hm' : mean x0 a = (μ : EReal) := hmean
  have hv' : variance x0 a = (v : EReal) := hvar
  unfold arranged result
  simp only [ht]
  rw [hsq, hv', hm', hee, hq, ← EReal.coe_add, hroot, Ideal.div_coe hs0, Ideal.div_coe hs0, hr, hw, hbb, hg]
  exact core _ _ _ _ _ _ _ _ _

/-- In a channel with an infinite value both arrangements normalise to the offset. -/
theorem arranged_inf (a : Fin 96) (p : Fin 2 × Fin 224 × Fin 224) (h0 : x0 (ix4 p.1 a p.2.1 p.2.2) = ⊤ ∨ x0 (ix4 p.1 a p.2.1 p.2.2) = ⊥)
    (h2 : ∀ i, ∃ r : ℝ, x2 i = r) (h4 : ∀ i, ∃ r : ℝ, x4 i = r) (h5 : ∀ i, ∃ r : ℝ, x5 i = r)
    (h6 : ∀ i, ∃ r : ℝ, x6 i = r) (h7 : ∀ i, ∃ r : ℝ, x7 i = r) (h8 : ∀ i, ∃ r : ℝ, x8 i = r) (h9 : ∀ i, ∃ r : ℝ, x9 i = r)
    (b : Fin 2) (y z : Fin 224) :
    arranged x0 x1 x2 x3 x4 x5 x6 x7 x8 x9 x10 x11 b a y z = result x0 x1 x2 x3 x4 x5 x6 x7 x8 x9 x10 x11 b a y z := by
  choose t ht using fun tap => tap_real x1 x2 x3 x6 x7 x8 h2 h6 h7 h8 b a y z tap
  obtain ⟨w, hw⟩ := h4 (ix1 a)
  obtain ⟨bb, hbb⟩ := h5 (ix1 a)
  obtain ⟨g, hg⟩ := h9 (ix1 a)
  obtain ⟨e, he, hee⟩ := eps_eq
  have hn : (100352 : ℝ) ≠ 0 := by norm_num
  have hp : (0 : ℝ) < 1 / 100352 := by norm_num
  have flat (F : Fin 2 → Fin 224 → Fin 224 → EReal) : ∑ b : Fin 2, ∑ y : Fin 224, ∑ z : Fin 224, F b y z = ∑ q : Fin 2 × Fin 224 × Fin 224, F q.1 q.2.1 q.2.2 := by
    rw [Fintype.sum_prod_type]
    simp only [Fintype.sum_prod_type]
  have hmean : mean x0 a = ⊤ ∨ mean x0 a = ⊥ := by
    have hs := inf_sum Finset.univ (fun q : Fin 2 × Fin 224 × Fin 224 => x0 (ix4 q.1 a q.2.1 q.2.2)) p (Finset.mem_univ p) h0
    unfold mean
    rw [count_eq, Ideal.div_coe hn, flat fun b y z => x0 (ix4 b a y z)]
    rcases hs with hs | hs
    · left; rw [hs, EReal.top_mul_coe_of_pos hp]
    · right; rw [hs, EReal.bot_mul_coe_of_pos hp]
  have hsq : Ideal.div (∑ b : Fin 2, ∑ y : Fin 224, ∑ z : Fin 224, x0 (ix4 b a y z) * x0 (ix4 b a y z)) (Ideal.ofBits .f32 0x47C40000#32) = ⊤ := by
    rw [count_eq, Ideal.div_coe hn, flat fun b y z => x0 (ix4 b a y z) * x0 (ix4 b a y z),
      sum_sq_inf (fun q : Fin 2 × Fin 224 × Fin 224 => x0 (ix4 q.1 a q.2.1 q.2.2)) p h0, EReal.top_mul_coe_of_pos hp]
  have hvar : variance x0 a = ⊤ := by
    unfold variance
    rw [count_eq, Ideal.div_coe hn, flat fun b y z => (x0 (ix4 b a y z) - mean x0 a) * (x0 (ix4 b a y z) - mean x0 a),
      sum_sq_inf (fun q : Fin 2 × Fin 224 × Fin 224 => x0 (ix4 q.1 a q.2.1 q.2.2) - mean x0 a) p (inf_add (.inl h0)), EReal.top_mul_coe_of_pos hp]
  have hq : (⊤ : EReal) - mean x0 a * mean x0 a + (e : EReal) = ⊥ := by
    rw [sq_inf hmean, sub_eq_add_neg, EReal.neg_top, EReal.add_bot, EReal.bot_add]
  have ht' : (⊤ : EReal) + (e : EReal) = ⊤ := EReal.top_add_coe e
  have d1 (v : EReal) : Ideal.div v ⊤ = 0 := by
    unfold Ideal.div
    rw [if_neg EReal.top_ne_zero, EReal.inv_top, mul_zero]
  have d2 (v : EReal) : Ideal.div v ⊥ = 0 := by
    unfold Ideal.div
    rw [if_neg EReal.bot_ne_zero, EReal.inv_bot, mul_zero]
  unfold arranged result
  simp only [ht]
  rw [hsq, hvar, hee, hq, ht', Ideal.sqrt_bot, Ideal.sqrt_top, d1, d2, hw, hbb, hg]
  have k := core 0 0 0 w bb g t (tapSum x1 x2 x3 x6 x7 x10 b a y z) (x11 (ix1 a))
  simp only [EReal.coe_zero, mul_zero, zero_mul, Finset.sum_const_zero, add_zero, sub_zero] at k ⊢
  exact k

/-- The kernel's arrangement is the result: the modulation's operands are real, the image is arbitrary. -/
theorem arranged_eq (h2 : ∀ i, ∃ r : ℝ, x2 i = r) (h4 : ∀ i, ∃ r : ℝ, x4 i = r) (h5 : ∀ i, ∃ r : ℝ, x5 i = r)
    (h6 : ∀ i, ∃ r : ℝ, x6 i = r) (h7 : ∀ i, ∃ r : ℝ, x7 i = r) (h8 : ∀ i, ∃ r : ℝ, x8 i = r) (h9 : ∀ i, ∃ r : ℝ, x9 i = r)
    (b : Fin 2) (a : Fin 96) (y z : Fin 224) :
    arranged x0 x1 x2 x3 x4 x5 x6 x7 x8 x9 x10 x11 b a y z = result x0 x1 x2 x3 x4 x5 x6 x7 x8 x9 x10 x11 b a y z := by
  by_cases h : ∃ p : Fin 2 × Fin 224 × Fin 224, x0 (ix4 p.1 a p.2.1 p.2.2) = ⊤ ∨ x0 (ix4 p.1 a p.2.1 p.2.2) = ⊥
  · obtain ⟨p, hp⟩ := h
    exact arranged_inf x0 x1 x2 x3 x4 x5 x6 x7 x8 x9 x10 x11 a p hp h2 h4 h5 h6 h7 h8 h9 b y z
  · refine arranged_real x0 x1 x2 x3 x4 x5 x6 x7 x8 x9 x10 x11 a (fun b y z => ?_) h2 h4 h5 h6 h7 h8 h9 b y z
    have hx : ¬ (x0 (ix4 b a y z) = ⊤ ∨ x0 (ix4 b a y z) = ⊥) := fun hh => h ⟨(b, y, z), hh⟩
    exact ⟨(x0 (ix4 b a y z)).toReal, (EReal.coe_toReal (fun e => hx (.inl e)) fun e => hx (.inr e)).symm⟩

end

end Cert.Spec

end
-- ==== Proof.Finite.lean ====
/- The precondition read back: the values it names are real. -/
module

public import proofs.«01_k».proof.Pre_finite
public import proofs.«01_k».proof.Proof.Gen.Pre_finite
public import proofs.«01_k».proof.Proof.Equation
public import Idealize.ShloMosaic.Lib.ReduceAll
public import Idealize.ShloMosaic.Lib.Pointwise

@[expose] public section

set_option maxRecDepth 16384

noncomputable section

namespace Cert.Pre_finite

open Idealize.ShloMosaic Idealize.SL.Sem Idealize.ShloMosaic.TcCoe Idealize.ShloMosaic.Tactic

theorem real_of_lt {x : EReal} (h : max x (-x) < ⊤) : ∃ r : ℝ, x = r := by
  obtain ⟨h1, h2⟩ := max_lt_iff.1 h
  refine ⟨x.toReal, (EReal.coe_toReal h1.ne ?_).symm⟩
  rintro rfl
  exact absurd h2 (by simp)

instance : Subsingleton S_.Idx := ⟨fun _ _ => funext fun d => d.elim0⟩

/-- One conjunct of the precondition: every value of an array is real. -/
theorem all_real {s : Shape} {axes : List (Fin s.rank)} (x : FVec Ideal s .f32) (init : IVec S_ 1) (h : s.ReducesTo axes S_) (hu : 0 < S_.numel)
    (hb : S_.BroadcastsInDim s (![] : Fin 0 → Fin s.rank)) (j : S_.Idx)
    (e : Host.reduce IntOp.andi (cmpf .olt (Host.absf x) (broadcastInDim s ![] hb (constant S_ .f32 0x7F800000#32))) init h hu j = 1#1) (i : s.Idx) :
    ∃ r : ℝ, (x i : EReal) = r := by
  have h1 := Host.reduce_andi_all _ _ _ _ _ e i
  have h2 : Ideal.cmp .olt (max (x i : EReal) (-(x i : EReal))) (Ideal.ofBits .f32 0x7F800000#32) = 1#1 := h1
  rw [Spec.inf_eq] at h2
  exact real_of_lt ((Ideal.cmp_olt_eq_one _ _).1 h2)

/-- The precondition: the codes, the layers, the batch norm's and the gamma convolution's parameters are real. -/
theorem finite_real (x0 : FVec Ideal S2x96x224x224 .f32) (x1 : FVec Ideal S2x8x56x56 .f32) (x2 : FVec Ideal S2x9x64 .f32) (x3 : IVec S2x8 32)
    (x4 x5 : FVec Ideal S96 .f32) (x6 : FVec Ideal S8x64x64 .f32) (x7 : FVec Ideal S8x64 .f32) (x8 : FVec Ideal S96x64x3x3 .f32)
    (x9 : FVec Ideal S96 .f32) (x10 : FVec Ideal S96x64x3x3 .f32) (x11 : FVec Ideal S96 .f32)
    (h : fn (F := Ideal) x0 x1 x2 x3 x4 x5 x6 x7 x8 x9 x10 x11 = fun _ => 1#1) :
    (∀ i, ∃ r : ℝ, (x2 i : EReal) = r) ∧ (∀ i, ∃ r : ℝ, (x4 i : EReal) = r) ∧ (∀ i, ∃ r : ℝ, (x5 i : EReal) = r)
      ∧ (∀ i, ∃ r : ℝ, (x6 i : EReal) = r) ∧ (∀ i, ∃ r : ℝ, (x7 i : EReal) = r) ∧ (∀ i, ∃ r : ℝ, (x8 i : EReal) = r) ∧ (∀ i, ∃ r : ℝ, (x9 i : EReal) = r) := by
  let j : S_.Idx := fun d => d.elim0
  have e := congrFun h j
  obtain ⟨e, e9⟩ := IntOp.andi_eq_one.1 (show IntOp.andi _ _ = 1#1 from e)
  obtain ⟨e, e8⟩ := IntOp.andi_eq_one.1 (show IntOp.andi _ _ = 1#1 from e)
  obtain ⟨e, e7⟩ := IntOp.andi_eq_one.1 (show IntOp.andi _ _ = 1#1 from e)
  obtain ⟨e, e6⟩ := IntOp.andi_eq_one.1 (show IntOp.andi _ _ = 1#1 from e)
  obtain ⟨e, e5⟩ := IntOp.andi_eq_one.1 (show IntOp.andi _ _ = 1#1 from e)
  obtain ⟨e2, e4⟩ := IntOp.andi_eq_one.1 (show IntOp.andi _ _ = 1#1 from e)
  exact ⟨all_real x2 _ _ _ _ j e2, all_real x4 _ _ _ _ j e4, all_real x5 _ _ _ _ j e5, all_real x6 _ _ _ _ j e6,
    all_real x7 _ _ _ _ j e7, all_real x8 _ _ _ _ j e8, all_real x9 _ _ _ _ j e9⟩

end Cert.Pre_finite

end
-- ==== Proof.Algebraic.lean ====
/- The value claim: the kernel's result array is the reference's, on arguments whose values are real. -/
module

public import proofs.«01_k».proof.Defs
public import proofs.«01_k».proof.Proof.Value
public import proofs.«01_k».proof.Proof.Reference
public import proofs.«01_k».proof.Proof.Finite
public import proofs.«01_k».proof.Proof.Gen.ReferenceIdeal.Run
public import Idealize.ShloMosaic.Lib.Claim

@[expose] public section

set_option maxRecDepth 16384

noncomputable section

namespace Cert.Proof

open Idealize.ShloMosaic Idealize.SL.Sem Idealize.ShloMosaic.TcCoe Idealize.ShloMosaic.Tactic

/-- The frames on the launches that the precondition admits. -/
theorem frame_ideal_finite : Cert.quiescent_KernelIdeal_pre_finite := fun m g _ =>
  θ_run_mono (Cert.KernelIdeal.Body.run_main m g) fun _ h => ⟨Cert.KernelIdeal.Body.args_kept m h.1, h.2⟩
theorem frame_reference_finite : Cert.quiescent_ReferenceIdeal_pre_finite := fun m g _ =>
  θ_run_mono (Cert.ReferenceIdeal.Value.run m g) fun r h => ⟨fun c => (h c).2, sem_eq_zero_of_no_sems (by decide) r.2⟩

/-- The kernel's array is the mathematics of its arguments. -/
theorem kernel_value (m : (ℓ : Loc Cert.KernelIdeal.nD Cert.KernelIdeal.τ Cert.KernelIdeal.sig) → Buf (Elt Ideal) ℓ) (hm : Cert.Pre_KernelIdeal_finite m)
    (c : Dev Cert.KernelIdeal.nD) (j : Cert.KernelIdeal.S2x96x224x224.Idx) :
    Cert.KernelIdeal.Body.kArr m c j = Cert.Spec.result (Cert.KernelIdeal.Body.ar0 m c) (Cert.KernelIdeal.Body.ar1 m c) (Cert.KernelIdeal.Body.ar2 m c) (Cert.KernelIdeal.Body.ar3 m c) (Cert.KernelIdeal.Body.ar4 m c) (Cert.KernelIdeal.Body.ar5 m c) (Cert.KernelIdeal.Body.ar6 m c) (Cert.KernelIdeal.Body.ar7 m c) (Cert.KernelIdeal.Body.ar8 m c) (Cert.KernelIdeal.Body.ar9 m c) (Cert.KernelIdeal.Body.ar10 m c) (Cert.KernelIdeal.Body.ar11 m c) (j 0) (j 1) (j 2) (j 3) := by
  obtain ⟨f2, f4, f5, f6, f7, f8, f9⟩ := Cert.Pre_finite.finite_real _ _ _ _ _ _ _ _ _ _ _ _ (hm c)
  refine (Cert.KernelIdeal.Body.kernel_out m c (j 0) (j 1) (j 2) (j 3)).trans ?_
  exact Cert.Spec.arranged_eq (Cert.KernelIdeal.Body.ar0 m c) (Cert.KernelIdeal.Body.ar1 m c) (Cert.KernelIdeal.Body.ar2 m c) (Cert.KernelIdeal.Body.ar3 m c) (Cert.KernelIdeal.Body.ar4 m c) (Cert.KernelIdeal.Body.ar5 m c) (Cert.KernelIdeal.Body.ar6 m c) (Cert.KernelIdeal.Body.ar7 m c) (Cert.KernelIdeal.Body.ar8 m c) (Cert.KernelIdeal.Body.ar9 m c) (Cert.KernelIdeal.Body.ar10 m c) (Cert.KernelIdeal.Body.ar11 m c) f2 f4 f5 f6 f7 f8 f9 (j 0) (j 1) (j 2) (j 3)

/-- The reference's array is the mathematics of its arguments. -/
theorem reference_value (x0 : Cert.Spec.A4 2 96 224 224) (x1 : Cert.Spec.A4 2 8 56 56) (x2 : Cert.Spec.A3 2 9 64) (x3 : (⟨2, ![2, 8]⟩ : Shape).Idx → BitVec 32)
    (x4 x5 : Cert.Spec.A1 96) (x6 : Cert.Spec.A3 8 64 64) (x7 : Cert.Spec.A2 8 64) (x8 : Cert.Spec.A4 96 64 3 3) (x9 : Cert.Spec.A1 96)
    (x10 : Cert.Spec.A4 96 64 3 3) (x11 : Cert.Spec.A1 96) (j : Cert.ReferenceIdeal.S2x96x224x224.Idx) :
    Cert.ReferenceIdeal.Read.val_main_v358 (F := Ideal) x0 x1 x2 x3 x4 x5 x6 x7 x8 x9 x10 x11 j
      = Cert.Spec.result x0 x1 x2 x3 x4 x5 x6 x7 x8 x9 x10 x11 (j 0) (j 1) (j 2) (j 3) := by
  have hj : j = ix4 (j 0) (j 1) (j 2) (j 3) := by
    funext d
    match d with
    | ⟨0, _⟩ => rfl
    | ⟨1, _⟩ => rfl
    | ⟨2, _⟩ => rfl
    | ⟨3, _⟩ => rfl
  exact (congrArg _ hj).trans (Cert.ReferenceIdeal.Body.r_result x0 x1 x2 x3 x4 x5 x9 x11 x6 x7 x8 x10 (j 0) (j 1) (j 2) (j 3))

/-- The value claim: launched on the same arguments, of which the precondition's are real, both programs end with the same result array. -/
theorem value : Cert.algebraic_KernelIdeal_ReferenceIdeal_pre_finite := by
  intro m g m' g' hm hargs
  refine ⟨fun c => Cert.KernelIdeal.Body.kArr m c, ?_, ?_⟩
  · exact θ_run_mono (Cert.KernelIdeal.Body.run_main m g) fun r h c =>
      ⟨Cert.KernelIdeal.Body.arr_eq m c h.1, Cert.KernelIdeal.Body.args_kept m h.1 c⟩
  · refine θ_run_mono (Cert.ReferenceIdeal.Value.run m' g') fun r h c => ⟨?_, (h c).2⟩
    obtain ⟨h0, h1, h2, h3, h4, h5, h6, h7, h8, h9, h10, h11⟩ := hargs c
    refine (h c).1.trans ?_
    refine (show _ = Cert.ReferenceIdeal.Read.val_main_v358 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) from
      Cert.ReferenceIdeal.Read.val_main_v358_eq (F := Ideal) (StableHlo.launchContents m' c)).trans ?_
    rw [h0, h1, h2, h3, h4, h5, h6, h7, h8, h9, h10, h11]
    funext j
    exact (reference_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) j).trans (kernel_value m hm c j).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The certificate: the frames, with and without the precondition, that nothing was replaced in the kernel, and the value claim. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, value⟩

end Cert.Proof

end
